-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_zero_bias [hPre_finite_x_zero_bias : Cert.Pre_finite_x_zero_bias.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_zero_bias.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_zero_bias [hPre_finite_x_zero_bias : Cert.Pre_finite_x_zero_bias.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_zero_bias.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_zero_bias [hKernelIdeal : Cert.KernelIdeal.Facts] [hPre_finite_x_zero_bias : Cert.Pre_finite_x_zero_bias.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_zero_bias m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_zero_bias [hReferenceIdeal : Cert.ReferenceIdeal.Facts] [hPre_finite_x_zero_bias : Cert.Pre_finite_x_zero_bias.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_zero_bias m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_zero_bias [hKernelIdeal : Cert.KernelIdeal.Facts] [hReferenceIdeal : Cert.ReferenceIdeal.Facts] [hPre_finite_x_zero_bias : Cert.Pre_finite_x_zero_bias.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_zero_bias m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_zero_bias : Cert.Pre_finite_x_zero_bias.Facts),
    quiescent_Kernel (hKernel := hKernel)
    ∧ quiescent_KernelIdeal (hKernelIdeal := hKernelIdeal)
    ∧ quiescent_KernelIdeal_pre_finite_x_zero_bias (hKernelIdeal := hKernelIdeal) (hPre_finite_x_zero_bias := hPre_finite_x_zero_bias)
    ∧ quiescent_ReferenceIdeal (hReferenceIdeal := hReferenceIdeal)
    ∧ quiescent_ReferenceIdeal_pre_finite_x_zero_bias (hReferenceIdeal := hReferenceIdeal) (hPre_finite_x_zero_bias := hPre_finite_x_zero_bias)
    ∧ preserves_Kernel_KernelIdeal
    ∧ algebraic_KernelIdeal_ReferenceIdeal_pre_finite_x_zero_bias (hKernelIdeal := hKernelIdeal) (hReferenceIdeal := hReferenceIdeal) (hPre_finite_x_zero_bias := hPre_finite_x_zero_bias)
-- ==== Pre_finite_x_zero_bias.lean ====
abbrev S8x256x16000 : Shape := ⟨3, ![8, 256, 16000]⟩
abbrev S1x256x1 : Shape := ⟨3, ![1, 256, 1]⟩
abbrev S_ : Shape := ⟨0, ![]⟩

class Facts : Prop where
  bcast_S_S8x256x16000 : S_.BroadcastsInDim S8x256x16000 (![] : Fin 0 → Fin S8x256x16000.rank)
  reducesTo_S8x256x16000_S_d0_1_2 : S8x256x16000.ReducesTo [0, 1, 2] S_
  h_S_ : 0 < S_.numel
  bcast_S_S1x256x1 : S_.BroadcastsInDim S1x256x1 (![] : Fin 0 → Fin S1x256x1.rank)
  reducesTo_S1x256x1_S_d0_1_2 : S1x256x1.ReducesTo [0, 1, 2] S_

variable [Facts]

def fn {F : FTy → Type} [FloatOps F] (main_arg0 : FVec F S8x256x16000 .f32) (main_arg1 : FVec F S1x256x1 .f32) (main_arg2 : FVec F S1x256x1 .f32) : IVec S_ 1 :=
  let main_v0 : FVec F S8x256x16000 .f32 := Host.absf main_arg0
  let main_cst : FVec F S_ .f32 := constant S_ .f32 0x7F800000#32
  let main_v1 : FVec F S8x256x16000 .f32 := broadcastInDim S8x256x16000 ![] bcast_S_S8x256x16000 main_cst
  let main_v2 : IVec S8x256x16000 1 := cmpf .olt main_v0 main_v1
  let main_c : IVec S_ 1 := constantI S_ 1 1#1
  let main_v3 : IVec S_ 1 := (fun x v => Host.reduce IntOp.andi x v reducesTo_S8x256x16000_S_d0_1_2 h_S_) main_v2 main_c
  let main_cst_0 : FVec F S_ .f32 := constant S_ .f32 0x00000000#32
  let main_v4 : FVec F S1x256x1 .f32 := broadcastInDim S1x256x1 ![] bcast_S_S1x256x1 main_cst_0
  let main_v5 : IVec S1x256x1 1 := cmpf .oeq main_arg2 main_v4
  let main_c_1 : IVec S_ 1 := constantI S_ 1 1#1
  let main_v6 : IVec S_ 1 := (fun x v => Host.reduce IntOp.andi x v reducesTo_S1x256x1_S_d0_1_2 h_S_) main_v5 main_c_1
  let main_v7 : IVec S_ 1 := andi main_v3 main_v6
  main_v7
-- ==== Kernel.lean ====
abbrev S8x256x16000 : Shape := ⟨3, ![8, 256, 16000]⟩
abbrev S1x256x1 : Shape := ⟨3, ![1, 256, 1]⟩
abbrev S8x2x128x16000 : Shape := ⟨4, ![8, 2, 128, 16000]⟩
abbrev S_ : Shape := ⟨0, ![]⟩
abbrev S640x640 : Shape := ⟨2, ![640, 640]⟩
abbrev S8x128 : Shape := ⟨2, ![8, 128]⟩
abbrev S1x256x128 : Shape := ⟨3, ![1, 256, 128]⟩
abbrev S2x128x128 : Shape := ⟨3, ![2, 128, 128]⟩
abbrev S2 : Shape := ⟨1, ![2]⟩
abbrev S5x2x128x3200 : Shape := ⟨4, ![5, 2, 128, 3200]⟩
abbrev S2x2x128x3200 : Shape := ⟨4, ![2, 2, 128, 3200]⟩
abbrev S5x2 : Shape := ⟨2, ![5, 2]⟩
abbrev S2x2 : Shape := ⟨2, ![2, 2]⟩
abbrev S1x1 : Shape := ⟨2, ![1, 1]⟩
abbrev S1x1x128x3200 : Shape := ⟨4, ![1, 1, 128, 3200]⟩
abbrev S128x3200 : Shape := ⟨2, ![128, 3200]⟩
abbrev S1 : Shape := ⟨1, ![1]⟩
abbrev S8x3200 : Shape := ⟨2, ![8, 3200]⟩
abbrev S1x3200 : Shape := ⟨2, ![1, 3200]⟩
abbrev S1x640 : Shape := ⟨2, ![1, 640]⟩
abbrev S10x640 : Shape := ⟨2, ![10, 640]⟩
abbrev S1x128x128 : Shape := ⟨3, ![1, 128, 128]⟩
abbrev S128x128 : Shape := ⟨2, ![128, 128]⟩
abbrev S128x640 : Shape := ⟨2, ![128, 640]⟩
abbrev S1x1x128x640 : Shape := ⟨4, ![1, 1, 128, 640]⟩

abbrev nBuf : Space → Nat
  | .hbm => 21
  | .vmem => 5
  | .smem => 1
  | _ => 0

abbrev bufTy : (tb : Table) → Fin (tcTables nBuf tb) → BufTy
  | .hbm, ⟨0, _⟩ => ⟨S8x256x16000, .f32⟩
  | .hbm, ⟨1, _⟩ => ⟨S1x256x1, .f32⟩
  | .hbm, ⟨2, _⟩ => ⟨S1x256x1, .f32⟩
  | .hbm, ⟨3, _⟩ => ⟨S8x2x128x16000, .f32⟩
  | .hbm, ⟨4, _⟩ => ⟨S_, .bf16⟩
  | .hbm, ⟨5, _⟩ => ⟨S640x640, .bf16⟩
  | .hbm, ⟨6, _⟩ => ⟨S640x640, .i32⟩
  | .hbm, ⟨7, _⟩ => ⟨S_, .i32⟩
  | .hbm, ⟨8, _⟩ => ⟨S640x640, .i32⟩
  | .hbm, ⟨9, _⟩ => ⟨S640x640, .i32⟩
  | .hbm, ⟨10, _⟩ => ⟨S640x640, .i32⟩
  | .hbm, ⟨11, _⟩ => ⟨S640x640, .i1⟩
  | .hbm, ⟨12, _⟩ => ⟨S_, .bf16⟩
  | .hbm, ⟨13, _⟩ => ⟨S640x640, .bf16⟩
  | .hbm, ⟨14, _⟩ => ⟨S640x640, .bf16⟩
  | .hbm, ⟨15, _⟩ => ⟨S_, .bf16⟩
  | .hbm, ⟨16, _⟩ => ⟨S8x128, .bf16⟩
  | .hbm, ⟨17, _⟩ => ⟨S1x256x128, .f32⟩
  | .hbm, ⟨18, _⟩ => ⟨S2x128x128, .f32⟩
  | .hbm, ⟨19, _⟩ => ⟨S8x2x128x16000, .f32⟩
  | .hbm, ⟨20, _⟩ => ⟨S8x256x16000, .f32⟩
  | .local _ .vmem, ⟨0, _⟩ => ⟨S2x128x128, .f32⟩
  | .local _ .vmem, ⟨1, _⟩ => ⟨S640x640, .bf16⟩
  | .local _ .vmem, ⟨2, _⟩ => ⟨S8x128, .bf16⟩
  | .local _ .vmem, ⟨3, _⟩ => ⟨S5x2x128x3200, .f32⟩
  | .local _ .vmem, ⟨4, _⟩ => ⟨S2x2x128x3200, .f32⟩
  | .local _ .smem, ⟨0, _⟩ => ⟨S2, .f32⟩
  | _, _ => ⟨S8x256x16000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_107 : BitVec 32) : Fin 2 → Nat :=
  let c5_i32_108 : BitVec 32 := 5#32
  let v327 : BitVec 32 := Scalar.remsi c0_i32_107 c5_i32_108
  let c0_i32_116 : BitVec 32 := 0#32
  ![v327.toNat, 0]
def k0_off2 (c0_i32_107 : BitVec 32) : Fin 4 → Nat :=
  let c5_i32_108 : BitVec 32 := 5#32
  let v327 : BitVec 32 := Scalar.remsi c0_i32_107 c5_i32_108
  let c0_i32_115 : BitVec 32 := 0#32
  let c0_i32_117 : BitVec 32 := 0#32
  let c0_i32_118 : BitVec 32 := 0#32
  ![v327.toNat, 0, 0, 0]
def k0_off3 (c0_i32_109 : BitVec 32) (c0_i32_111 : BitVec 32) : Fin 4 → Nat :=
  let c5_i32_110 : BitVec 32 := 5#32
  let v328 : BitVec 32 := Scalar.divsi c0_i32_109 c5_i32_110
  let c0_i32_114 : BitVec 32 := 0#32
  let c0_i32_119 : BitVec 32 := 0#32
  let c5_i32_112 : BitVec 32 := 5#32
  let v329 : BitVec 32 := Scalar.remsi c0_i32_111 c5_i32_112
  let c3200_i32_113 : BitVec 32 := 3200#32
  let v330 : BitVec 32 := Scalar.muli v329 c3200_i32_113
  ![v328.toNat, 0, 0, v330.toNat]
def k0_off3_at (r : Fin 4) : BitVec 32 × BitVec 32 :=
  if r.val < 2 then
    if r.val < 1 then
      (0#32, 0#32)
    else
      (1#32, 1#32)
  else
    if r.val < 3 then
      (2#32, 2#32)
    else
      (3#32, 3#32)
def k0_off4 (c0_i32_107 : BitVec 32) : Fin 2 → Nat :=
  let c5_i32_108 : BitVec 32 := 5#32
  let v327 : BitVec 32 := Scalar.remsi c0_i32_107 c5_i32_108
  let c1_i32_123 : BitVec 32 := 1#32
  ![v327.toNat, 1]
def k0_off5 (c0_i32_107 : BitVec 32) : Fin 4 → Nat :=
  let c5_i32_108 : BitVec 32 := 5#32
  let v327 : BitVec 32 := Scalar.remsi c0_i32_107 c5_i32_108
  let c1_i32_122 : BitVec 32 := 1#32
  let c0_i32_124 : BitVec 32 := 0#32
  let c0_i32_125 : BitVec 32 := 0#32
  ![v327.toNat, 1, 0, 0]
def k0_off6 (c0_i32_109 : BitVec 32) (c0_i32_111 : BitVec 32) : Fin 4 → Nat :=
  let c5_i32_110 : BitVec 32 := 5#32
  let v328 : BitVec 32 := Scalar.divsi c0_i32_109 c5_i32_110
  let c1_i32_121 : BitVec 32 := 1#32
  let c0_i32_126 : BitVec 32 := 0#32
  let c5_i32_112 : BitVec 32 := 5#32
  let v329 : BitVec 32 := Scalar.remsi c0_i32_111 c5_i32_112
  let c3200_i32_120 : BitVec 32 := 3200#32
  let v337 : BitVec 32 := Scalar.muli v329 c3200_i32_120
  ![v328.toNat, 1, 0, v337.toNat]
def k0_off6_at (r : Fin 4) : BitVec 32 × BitVec 32 :=
  if r.val < 2 then
    if r.val < 1 then
      (0#32, 0#32)
    else
      (1#32, 1#32)
  else
    if r.val < 3 then
      (2#32, 2#32)
    else
      (3#32, 3#32)
def k0_cond2 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32 : BitVec 32 := 4#32
  let v5 : BitVec 32 := Scalar.addi v1 c4_i32
  let c40_i32 : BitVec 32 := 40#32
  let v6 : BitVec 1 := Scalar.cmpi .slt v5 c40_i32
  let v7 : BitVec 32 := Scalar.extui v6
  let c0_i32_1 : BitVec 32 := 0#32
  let v8 : BitVec 1 := Scalar.cmpi .ne v7 c0_i32_1
  v8

def k0_off7 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_108 : BitVec 32 := 5#32
  let v328 : BitVec 32 := Scalar.remsi v327 c5_i32_108
  let c0_i32_114 : BitVec 32 := 0#32
  ![v328.toNat, 0]
def k0_off8 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_108 : BitVec 32 := 5#32
  let v328 : BitVec 32 := Scalar.remsi v327 c5_i32_108
  let c0_i32_113 : BitVec 32 := 0#32
  let c0_i32_115 : BitVec 32 := 0#32
  let c0_i32_116 : BitVec 32 := 0#32
  ![v328.toNat, 0, 0, 0]
def k0_off9 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_109 : BitVec 32 := 5#32
  let v329 : BitVec 32 := Scalar.divsi v327 c5_i32_109
  let c0_i32_112 : BitVec 32 := 0#32
  let c0_i32_117 : BitVec 32 := 0#32
  let c5_i32_110 : BitVec 32 := 5#32
  let v330 : BitVec 32 := Scalar.remsi v327 c5_i32_110
  let c3200_i32_111 : BitVec 32 := 3200#32
  let v331 : BitVec 32 := Scalar.muli v330 c3200_i32_111
  ![v329.toNat, 0, 0, v331.toNat]
def k0_off10 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_108 : BitVec 32 := 5#32
  let v328 : BitVec 32 := Scalar.remsi v327 c5_i32_108
  let c1_i32_121 : BitVec 32 := 1#32
  ![v328.toNat, 1]
def k0_off11 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_108 : BitVec 32 := 5#32
  let v328 : BitVec 32 := Scalar.remsi v327 c5_i32_108
  let c1_i32_120 : BitVec 32 := 1#32
  let c0_i32_122 : BitVec 32 := 0#32
  let c0_i32_123 : BitVec 32 := 0#32
  ![v328.toNat, 1, 0, 0]
def k0_off12 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c4_i32_107 : BitVec 32 := 4#32
  let v327 : BitVec 32 := Scalar.addi v1 c4_i32_107
  let c5_i32_109 : BitVec 32 := 5#32
  let v329 : BitVec 32 := Scalar.divsi v327 c5_i32_109
  let c1_i32_119 : BitVec 32 := 1#32
  let c0_i32_124 : BitVec 32 := 0#32
  let c5_i32_110 : BitVec 32 := 5#32
  let v330 : BitVec 32 := Scalar.remsi v327 c5_i32_110
  let c3200_i32_118 : BitVec 32 := 3200#32
  let v338 : BitVec 32 := Scalar.muli v330 c3200_i32_118
  ![v329.toNat, 1, 0, v338.toNat]
def k0_off13 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let c0_i32_5 : BitVec 32 := 0#32
  ![v9.toNat, 0]
def k0_off14 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let c0_i32_4 : BitVec 32 := 0#32
  let c0_i32_6 : BitVec 32 := 0#32
  let c0_i32_7 : BitVec 32 := 0#32
  ![v9.toNat, 0, 0, 0]
def k0_off15 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let c1_i32_11 : BitVec 32 := 1#32
  ![v9.toNat, 1]
def k0_off16 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let c1_i32_10 : BitVec 32 := 1#32
  let c0_i32_12 : BitVec 32 := 0#32
  let c0_i32_13 : BitVec 32 := 0#32
  ![v9.toNat, 1, 0, 0]
def k0_off17 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let v26 : Index := Scalar.indexCast v9
  let c0 : Index := 0#32
  let c0_18 : Index := 0#32
  let c0_19 : Index := 0#32
  ![v26.toNat, 0, 0, 0]
def k0_off18 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c5_i32_2 : BitVec 32 := 5#32
  let v9 : BitVec 32 := Scalar.remsi v1 c5_i32_2
  let v29 : Index := Scalar.indexCast v9
  let c1 : Index := 1#32
  let c0_20 : Index := 0#32
  let c0_21 : Index := 0#32
  ![v29.toNat, 1, 0, 0]
def k0_cond4 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32_30 : BitVec 32 := 2#32
  let v61 : BitVec 1 := Scalar.cmpi .sge v1 c2_i32_30
  let v62 : BitVec 32 := Scalar.extui v61
  let c0_i32_31 : BitVec 32 := 0#32
  let v63 : BitVec 1 := Scalar.cmpi .ne v62 c0_i32_31
  v63

def k0_off19 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_109 : BitVec 32 := 0#32
  ![v10.toNat, 0]
def k0_off20 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_108 : BitVec 32 := 0#32
  let c0_i32_110 : BitVec 32 := 0#32
  let c0_i32_111 : BitVec 32 := 0#32
  ![v10.toNat, 0, 0, 0]
def k0_off21 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_116 : BitVec 32 := 1#32
  ![v10.toNat, 1]
def k0_off22 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_115 : BitVec 32 := 1#32
  let c0_i32_117 : BitVec 32 := 0#32
  let c0_i32_118 : BitVec 32 := 0#32
  ![v10.toNat, 1, 0, 0]
def k0_off23 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v106 : Index := Scalar.indexCast v10
  let c0_44 : Index := 0#32
  let c0_45 : Index := 0#32
  let c0_46 : Index := 0#32
  ![v106.toNat, 0, 0, 0]
def k0_off24 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v116 : Index := Scalar.indexCast v10
  let c1_47 : Index := 1#32
  let c0_48 : Index := 0#32
  let c0_49 : Index := 0#32
  ![v116.toNat, 1, 0, 0]
def k0_off25 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v153 : Index := Scalar.indexCast v10
  let c0_55 : Index := 0#32
  let c0_56 : Index := 0#32
  let c640 : Index := 640#32
  ![v153.toNat, 0, 0, 640]
def k0_off26 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v163 : Index := Scalar.indexCast v10
  let c1_57 : Index := 1#32
  let c0_58 : Index := 0#32
  let c640_59 : Index := 640#32
  ![v163.toNat, 1, 0, 640]
def k0_off27 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v200 : Index := Scalar.indexCast v10
  let c0_65 : Index := 0#32
  let c0_66 : Index := 0#32
  let c1280 : Index := 1280#32
  ![v200.toNat, 0, 0, 1280]
def k0_off28 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v210 : Index := Scalar.indexCast v10
  let c1_67 : Index := 1#32
  let c0_68 : Index := 0#32
  let c1280_69 : Index := 1280#32
  ![v210.toNat, 1, 0, 1280]
def k0_off29 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v247 : Index := Scalar.indexCast v10
  let c0_75 : Index := 0#32
  let c0_76 : Index := 0#32
  let c1920 : Index := 1920#32
  ![v247.toNat, 0, 0, 1920]
def k0_off30 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v257 : Index := Scalar.indexCast v10
  let c1_77 : Index := 1#32
  let c0_78 : Index := 0#32
  let c1920_79 : Index := 1920#32
  ![v257.toNat, 1, 0, 1920]
def k0_off31 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v294 : Index := Scalar.indexCast v10
  let c0_85 : Index := 0#32
  let c0_86 : Index := 0#32
  let c2560 : Index := 2560#32
  ![v294.toNat, 0, 0, 2560]
def k0_off32 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v304 : Index := Scalar.indexCast v10
  let c1_87 : Index := 1#32
  let c0_88 : Index := 0#32
  let c2560_89 : Index := 2560#32
  ![v304.toNat, 1, 0, 2560]
def k0_off33 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_95 : BitVec 32 := 0#32
  ![v10.toNat, 0]
def k0_off34 (i : grid0.Coords) : Fin 4 → Nat :=
  let arg0 : BitVec 32 := BitVec.ofNat 32 (i 0).val
  let c0_i32_94 : BitVec 32 := 0#32
  let c0_i32_96 : BitVec 32 := 0#32
  let arg1 : BitVec 32 := BitVec.ofNat 32 (i 1).val
  let c3200_i32_92 : BitVec 32 := 3200#32
  let v310 : BitVec 32 := Scalar.muli arg1 c3200_i32_92
  ![arg0.toNat, 0, 0, v310.toNat]
def k0_off35 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_93 : BitVec 32 := 0#32
  let c0_i32_97 : BitVec 32 := 0#32
  let c0_i32_98 : BitVec 32 := 0#32
  ![v10.toNat, 0, 0, 0]
def k0_off36 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_102 : BitVec 32 := 1#32
  ![v10.toNat, 1]
def k0_off37 (i : grid0.Coords) : Fin 4 → Nat :=
  let arg0 : BitVec 32 := BitVec.ofNat 32 (i 0).val
  let c1_i32_101 : BitVec 32 := 1#32
  let c0_i32_103 : BitVec 32 := 0#32
  let arg1 : BitVec 32 := BitVec.ofNat 32 (i 1).val
  let c3200_i32_99 : BitVec 32 := 3200#32
  let v317 : BitVec 32 := Scalar.muli arg1 c3200_i32_99
  ![arg0.toNat, 1, 0, v317.toNat]
def k0_off38 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_100 : BitVec 32 := 1#32
  let c0_i32_104 : BitVec 32 := 0#32
  let c0_i32_105 : BitVec 32 := 0#32
  ![v10.toNat, 1, 0, 0]
def k0_cond5 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c39_i32 : BitVec 32 := 39#32
  let v324 : BitVec 1 := Scalar.cmpi .eq v1 c39_i32
  let v325 : BitVec 32 := Scalar.extui v324
  let c0_i32_106 : BitVec 32 := 0#32
  let v326 : BitVec 1 := Scalar.cmpi .ne v325 c0_i32_106
  v326

def k0_off39 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_109 : BitVec 32 := 0#32
  ![v10.toNat, 0]
def k0_off40 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c0_i32_108 : BitVec 32 := 0#32
  let c0_i32_110 : BitVec 32 := 0#32
  let c0_i32_111 : BitVec 32 := 0#32
  ![v10.toNat, 0, 0, 0]
def k0_off41 (i : grid0.Coords) : Fin 2 → Nat :=
  let c1_i32_116 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v335 : BitVec 32 := Scalar.subi c1_i32_116 v10
  let c0_i32_119 : BitVec 32 := 0#32
  ![v335.toNat, 0]
def k0_off42 (i : grid0.Coords) : Fin 4 → Nat :=
  let c1_i32_115 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v334 : BitVec 32 := Scalar.subi c1_i32_115 v10
  let c0_i32_118 : BitVec 32 := 0#32
  let c0_i32_120 : BitVec 32 := 0#32
  let c0_i32_121 : BitVec 32 := 0#32
  ![v334.toNat, 0, 0, 0]
def k0_off43 (i : grid0.Coords) : Fin 2 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_126 : BitVec 32 := 1#32
  ![v10.toNat, 1]
def k0_off44 (i : grid0.Coords) : Fin 4 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let c1_i32_125 : BitVec 32 := 1#32
  let c0_i32_127 : BitVec 32 := 0#32
  let c0_i32_128 : BitVec 32 := 0#32
  ![v10.toNat, 1, 0, 0]
def k0_off45 (i : grid0.Coords) : Fin 2 → Nat :=
  let c1_i32_133 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v350 : BitVec 32 := Scalar.subi c1_i32_133 v10
  let c1_i32_136 : BitVec 32 := 1#32
  ![v350.toNat, 1]
def k0_off46 (i : grid0.Coords) : Fin 4 → Nat :=
  let c1_i32_132 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v10 : BitVec 32 := Scalar.remsi v1 c2_i32
  let v349 : BitVec 32 := Scalar.subi c1_i32_132 v10
  let c1_i32_135 : BitVec 32 := 1#32
  let c0_i32_137 : BitVec 32 := 0#32
  let c0_i32_138 : BitVec 32 := 0#32
  ![v349.toNat, 1, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S640x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S8x256x16000 : Shape := ⟨3, ![8, 256, 16000]⟩
abbrev S1x256x1 : Shape := ⟨3, ![1, 256, 1]⟩
abbrev S_ : Shape := ⟨0, ![]⟩
abbrev S8x16000 : Shape := ⟨2, ![8, 16000]⟩
abbrev S16000 : Shape := ⟨1, ![16000]⟩
abbrev S1x16000 : Shape := ⟨2, ![1, 16000]⟩
abbrev S8x1x16000 : Shape := ⟨3, ![8, 1, 16000]⟩

abbrev nBuf : Space → Nat
  | .hbm => 43
  | .vmem => 0
  | .smem => 0
  | _ => 0

abbrev bufTy : (tb : Table) → Fin (tcTables nBuf tb) → BufTy
  | .hbm, ⟨0, _⟩ => ⟨S8x256x16000, .f32⟩
  | .hbm, ⟨1, _⟩ => ⟨S1x256x1, .f32⟩
  | .hbm, ⟨2, _⟩ => ⟨S1x256x1, .f32⟩
  | .hbm, ⟨3, _⟩ => ⟨S_, .f32⟩
  | .hbm, ⟨4, _⟩ => ⟨S8x16000, .f32⟩
  | .hbm, ⟨5, _⟩ => ⟨S_, .f32⟩
  | .hbm, ⟨6, _⟩ => ⟨S_, .f32⟩
  | .hbm, ⟨7, _⟩ => ⟨S8x16000, .f32⟩
  | .hbm, ⟨8, _⟩ => ⟨S8x256x16000, .f32⟩
  | .hbm, ⟨9, _⟩ => ⟨S_, .f32⟩
  | .hbm, ⟨10, _⟩ => ⟨S8x16000, .f32⟩
  | .hbm, ⟨11, _⟩ => ⟨S_, .f32⟩
  | .hbm, ⟨12, _⟩ => ⟨S_, .f32⟩
  | .hbm, ⟨13, _⟩ => ⟨S8x16000, .f32⟩
  | .hbm, ⟨14, _⟩ => ⟨S16000, .f32⟩
  | .hbm, ⟨15, _⟩ => ⟨S_, .f32⟩
  | .hbm, ⟨16, _⟩ => ⟨S16000, .f32⟩
  | .hbm, ⟨17, _⟩ => ⟨S16000, .f32⟩
  | .hbm, ⟨18, _⟩ => ⟨S_, .f32⟩
  | .hbm, ⟨19, _⟩ => ⟨S16000, .f32⟩
  | .hbm, ⟨20, _⟩ => ⟨S16000, .f32⟩
  | .hbm, ⟨21, _⟩ => ⟨S1x16000, .f32⟩
  | .hbm, ⟨22, _⟩ => ⟨S8x16000, .f32⟩
  | .hbm, ⟨23, _⟩ => ⟨S8x16000, .f32⟩
  | .hbm, ⟨24, _⟩ => ⟨S1x16000, .f32⟩
  | .hbm, ⟨25, _⟩ => ⟨S8x16000, .f32⟩
  | .hbm, ⟨26, _⟩ => ⟨S8x16000, .f32⟩
  | .hbm, ⟨27, _⟩ => ⟨S8x16000, .f32⟩
  | .hbm, ⟨28, _⟩ => ⟨S8x16000, .f32⟩
  | .hbm, ⟨29, _⟩ => ⟨S_, .f32⟩
  | .hbm, ⟨30, _⟩ => ⟨S8x16000, .f32⟩
  | .hbm, ⟨31, _⟩ => ⟨S8x16000, .f32⟩
  | .hbm, ⟨32, _⟩ => ⟨S8x16000, .f32⟩
  | .hbm, ⟨33, _⟩ => ⟨S8x1x16000, .f32⟩
  | .hbm, ⟨34, _⟩ => ⟨S8x1x16000, .f32⟩
  | .hbm, ⟨35, _⟩ => ⟨S8x256x16000, .f32⟩
  | .hbm, ⟨36, _⟩ => ⟨S8x256x16000, .f32⟩
  | .hbm, ⟨37, _⟩ => ⟨S8x256x16000, .f32⟩
  | .hbm, ⟨38, _⟩ => ⟨S8x256x16000, .f32⟩
  | .hbm, ⟨39, _⟩ => ⟨S8x256x16000, .f32⟩
  | .hbm, ⟨40, _⟩ => ⟨S8x256x16000, .f32⟩
  | .hbm, ⟨41, _⟩ => ⟨S8x256x16000, .f32⟩
  | .hbm, ⟨42, _⟩ => ⟨S8x256x16000, .f32⟩
  | _, _ => ⟨S8x256x16000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_call1_call0_cst : Ref sig .tc := ⟨.hbm, 11, rfl⟩
abbrev main_call1_call0_v0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.INames.lean ====
module

public import proofs.«01_k».proof.Defs
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffixV
public import Idealize.ShloMosaic.Lib.Ring
public import Idealize.ShloMosaic.Lib.Tactic

@[expose] public section

noncomputable section

/-! The names of the pieces the kernel moves: the blocks of the input and of the result, the slots of
the two rings, their semaphore cells; and the closed forms of the printed offsets at each grid point. -/

namespace Cert.KernelIdeal.Hand

open Cert.KernelIdeal Cert.KernelIdeal.Gen
open Idealize.ShloMosaic
open Idealize.ShloMosaic.TcCoe Idealize.ShloMosaic.Tactic

abbrev xM : Memref sig .tc .hbm S8x2x128x16000 .f32 := Memref.whole main_v0
abbrev oM : Memref sig .tc .hbm S8x2x128x16000 .f32 := Memref.whole main_v6
abbrev carryM : Memref sig .tc .smem S2 .f32 := Memref.whole cc0_scratch0
abbrev inM : Memref sig .tc .vmem S5x2x128x3200 .f32 := Memref.whole cc0_scratch1
abbrev outM : Memref sig .tc .vmem S2x2x128x3200 .f32 := Memref.whole cc0_scratch2

/-- The corner of half `h` of block `k` in the array of eight sequences. -/
def blkOff (k : Fin 40) (h : Fin 2) : Fin 4 → Nat := ![k.val / 5, h.val, 0, k.val % 5 * 3200]
/-- The corner of half `h` of slot `s` of a ring of `n` slots. -/
def slotOff {n : Nat} (s : Fin n) (h : Fin 2) : Fin 4 → Nat := ![s.val, h.val, 0, 0]
/-- The place of the cell of half `h` of slot `s`. -/
def cellOff {n : Nat} (s : Fin n) (h : Fin 2) : Fin 2 → Nat := ![s.val, h.val]

/-- A half block lies inside the array. -/
theorem blkOff_inb (k : Fin 40) (h : Fin 2) : ∀ a, blkOff k h a + S1x1x128x3200.size a ≤ S8x2x128x16000.size a := by
  revert k h; decide +kernel
/-- A half slot lies inside the input ring. -/
theorem slot5_inb (s : Fin 5) (h : Fin 2) : ∀ a, slotOff s h a + S1x1x128x3200.size a ≤ S5x2x128x3200.size a := by
  revert s h; decide +kernel
/-- A half slot lies inside the output ring. -/
theorem slot2_inb (s : Fin 2) (h : Fin 2) : ∀ a, slotOff s h a + S1x1x128x3200.size a ≤ S2x2x128x3200.size a := by
  revert s h; decide +kernel
/-- An input cell lies inside the input ring's array of cells. -/
theorem cell5_inb (s : Fin 5) (h : Fin 2) : ∀ a, cellOff s h a + S1x1.size a ≤ S5x2.size a := by
  revert s h; decide +kernel
/-- An output cell lies inside the output ring's array of cells. -/
theorem cell2_inb (s : Fin 2) (h : Fin 2) : ∀ a, cellOff s h a + S1x1.size a ≤ S2x2.size a := by
  revert s h; decide +kernel

/-- Half `h` of block `k` of the input. -/
def src (k : Fin 40) (h : Fin 2) : Memref sig .tc .hbm S128x3200 .f32 :=
  (xM.slice (Rect.unit (s := S8x2x128x16000) (blkOff k h) S1x1x128x3200.size (blkOff_inb k h)) (fun _ => rfl)).squeeze S128x3200 squeezes_S1x1x128x3200_S128x3200
/-- Half `h` of block `k` of the result. -/
def dst (k : Fin 40) (h : Fin 2) : Memref sig .tc .hbm S128x3200 .f32 :=
  (oM.slice (Rect.unit (s := S8x2x128x16000) (blkOff k h) S1x1x128x3200.size (blkOff_inb k h)) (fun _ => rfl)).squeeze S128x3200 squeezes_S1x1x128x3200_S128x3200
/-- Half `h` of slot `s` of the input ring. -/
def islot (s : Fin 5) (h : Fin 2) : Memref sig .tc .vmem S128x3200 .f32 :=
  (inM.slice (Rect.unit (s := S5x2x128x3200) (slotOff s h) S1x1x128x3200.size (slot5_inb s h)) (fun _ => rfl)).squeeze S128x3200 squeezes_S1x1x128x3200_S128x3200
/-- Half `h` of slot `s` of the output ring. -/
def oslot (s : Fin 2) (h : Fin 2) : Memref sig .tc .vmem S128x3200 .f32 :=
  (outM.slice (Rect.unit (s := S2x2x128x3200) (slotOff s h) S1x1x128x3200.size (slot2_inb s h)) (fun _ => rfl)).squeeze S128x3200 squeezes_S1x1x128x3200_S128x3200
/-- The cell of half `h` of slot `s` of the input ring. -/
def icell (s : Fin 5) (h : Fin 2) : DmaSems sig S_ :=
  (cc0_scratch3.slice (Rect.unit (s := S5x2) (cellOff s h) S1x1.size (cell5_inb s h))).squeeze S_ squeezes_S1x1_S_
/-- The cell of half `h` of slot `s` of the output ring. -/
def ocell (s : Fin 2) (h : Fin 2) : DmaSems sig S_ :=
  (cc0_scratch4.slice (Rect.unit (s := S2x2) (cellOff s h) S1x1.size (cell2_inb s h))).squeeze S_ squeezes_S1x1_S_

instance (k : Fin 40) (h : Fin 2) : ClosedOff (blkOff k h) := ⟨![k.val / 5, h.val, 0, k.val % 5 * 3200], rfl⟩
instance {n : Nat} (s : Fin n) (h : Fin 2) : ClosedOff (slotOff s h) := ⟨![s.val, h.val, 0, 0], rfl⟩

/-- A slice of the input at the corner of a half block is that half block. -/
theorem src_congr {off : Fin 4 → Nat} {k : Fin 40} {h : Fin 2} (e : off = blkOff k h) (hh hs) :
    (xM.slice (Rect.unit (s := S8x2x128x16000) off S1x1x128x3200.size hh) hs).squeeze S128x3200 squeezes_S1x1x128x3200_S128x3200 = src k h :=
  congrArg (fun M : Memref sig .tc .hbm S1x1x128x3200 .f32 => M.squeeze S128x3200 squeezes_S1x1x128x3200_S128x3200) (Memref.slice_unit_congr _ e _ _ _ _)
/-- A slice of the result at the corner of a half block is that half block. -/
theorem dst_congr {off : Fin 4 → Nat} {k : Fin 40} {h : Fin 2} (e : off = blkOff k h) (hh hs) :
    (oM.slice (Rect.unit (s := S8x2x128x16000) off S1x1x128x3200.size hh) hs).squeeze S128x3200 squeezes_S1x1x128x3200_S128x3200 = dst k h :=
  congrArg (fun M : Memref sig .tc .hbm S1x1x128x3200 .f32 => M.squeeze S128x3200 squeezes_S1x1x128x3200_S128x3200) (Memref.slice_unit_congr _ e _ _ _ _)
/-- A slice of the input ring at the corner of a half slot is that half slot. -/
theorem islot_congr {off : Fin 4 → Nat} {s : Fin 5} {h : Fin 2} (e : off = slotOff s h) (hh hs) :
    (inM.slice (Rect.unit (s := S5x2x128x3200) off S1x1x128x3200.size hh) hs).squeeze S128x3200 squeezes_S1x1x128x3200_S128x3200 = islot s h :=
  congrArg (fun M : Memref sig .tc .vmem S1x1x128x3200 .f32 => M.squeeze S128x3200 squeezes_S1x1x128x3200_S128x3200) (Memref.slice_unit_congr _ e _ _ _ _)
/-- A slice of the output ring at the corner of a half slot is that half slot. -/
theorem oslot_congr {off : Fin 4 → Nat} {s : Fin 2} {h : Fin 2} (e : off = slotOff s h) (hh hs) :
    (outM.slice (Rect.unit (s := S2x2x128x3200) off S1x1x128x3200.size hh) hs).squeeze S128x3200 squeezes_S1x1x128x3200_S128x3200 = oslot s h :=
  congrArg (fun M : Memref sig .tc .vmem S1x1x128x3200 .f32 => M.squeeze S128x3200 squeezes_S1x1x128x3200_S128x3200) (Memref.slice_unit_congr _ e _ _ _ _)
/-- A slice of the input cells at a place is the named cell. -/
theorem icell_congr {off : Fin 2 → Nat} {s : Fin 5} {h : Fin 2} (e : off = cellOff s h) (hh) :
    (cc0_scratch3.slice (Rect.unit (s := S5x2) off S1x1.size hh)).squeeze S_ squeezes_S1x1_S_ = icell s h :=
  congrArg (fun A : DmaSems sig S1x1 => A.squeeze S_ squeezes_S1x1_S_) (SemArray.slice_unit_congr _ e _ _)
/-- A slice of the output cells at a place is the named cell. -/
theorem ocell_congr {off : Fin 2 → Nat} {s : Fin 2} {h : Fin 2} (e : off = cellOff s h) (hh) :
    (cc0_scratch4.slice (Rect.unit (s := S2x2) off S1x1.size hh)).squeeze S_ squeezes_S1x1_S_ = ocell s h :=
  congrArg (fun A : DmaSems sig S1x1 => A.squeeze S_ squeezes_S1x1_S_) (SemArray.slice_unit_congr _ e _ _)

/-! ### The printed offsets at grid point `t` -/

/-- The slice written out for the first point is the named one. -/
@[sl_canon] theorem boot_icell_0_0 (hh) : (cc0_scratch3.slice (Rect.unit (s := S5x2) (k0_off1 0#32) S1x1.size hh)).squeeze S_ squeezes_S1x1_S_ = icell 0 0 := icell_congr (by decide +kernel) _
/-- The slice written out for the first point is the named one. -/
@[sl_canon] theorem boot_islot_0_0 (hh hs) : (inM.slice (Rect.unit (s := S5x2x128x3200) (k0_off2 0#32) S1x1x128x3200.size hh) hs).squeeze S128x3200 squeezes_S1x1x128x3200_S128x3200 = islot 0 0 := islot_congr (by decide +kernel) _ _
/-- The slice written out for the first point is the named one. -/
@[sl_canon] theorem boot_src_0_0 (hh hs) : (xM.slice (Rect.unit (s := S8x2x128x16000) (k0_off3 0#32 0#32) S1x1x128x3200.size hh) hs).squeeze S128x3200 squeezes_S1x1x128x3200_S128x3200 = src 0 0 := src_congr (by decide +kernel) _ _
/-- The slice written out for the first point is the named one. -/
@[sl_canon] theorem boot_icell_0_1 (hh) : (cc0_scratch3.slice (Rect.unit (s := S5x2) (k0_off4 0#32) S1x1.size hh)).squeeze S_ squeezes_S1x1_S_ = icell 0 1 := icell_congr (by decide +kernel) _
/-- The slice written out for the first point is the named one. -/
@[sl_canon] theorem boot_islot_0_1 (hh hs) : (inM.slice (Rect.unit (s := S5x2x128x3200) (k0_off5 0#32) S1x1x128x3200.size hh) hs).squeeze S128x3200 squeezes_S1x1x128x3200_S128x3200 = islot 0 1 := islot_congr (by decide +kernel) _ _
/-- The slice written out for the first point is the named one. -/
@[sl_canon] theorem boot_src_0_1 (hh hs) : (xM.slice (Rect.unit (s := S8x2x128x16000) (k0_off6 0#32 0#32) S1x1x128x3200.size hh) hs).squeeze S128x3200 squeezes_S1x1x128x3200_S128x3200 = src 0 1 := src_congr (by decide +kernel) _ _
/-- The slice written out for the first point is the named one. -/
@[sl_canon] theorem boot_icell_1_0 (hh) : (cc0_scratch3.slice (Rect.unit (s := S5x2) (k0_off1 1#32) S1x1.size hh)).squeeze S_ squeezes_S1x1_S_ = icell 1 0 := icell_congr (by decide +kernel) _
/-- The slice written out for the first point is the named one. -/
@[sl_canon] theorem boot_islot_1_0 (hh hs) : (inM.slice (Rect.unit (s := S5x2x128x3200) (k0_off2 1#32) S1x1x128x3200.size hh) hs).squeeze S128x3200 squeezes_S1x1x128x3200_S128x3200 = islot 1 0 := islot_congr (by decide +kernel) _ _
/-- The slice written out for the first point is the named one. -/
@[sl_canon] theorem boot_src_1_0 (hh hs) : (xM.slice (Rect.unit (s := S8x2x128x16000) (k0_off3 1#32 1#32) S1x1x128x3200.size hh) hs).squeeze S128x3200 squeezes_S1x1x128x3200_S128x3200 = src 1 0 := src_congr (by decide +kernel) _ _
/-- The slice written out for the first point is the named one. -/
@[sl_canon] theorem boot_icell_1_1 (hh) : (cc0_scratch3.slice (Rect.unit (s := S5x2) (k0_off4 1#32) S1x1.size hh)).squeeze S_ squeezes_S1x1_S_ = icell 1 1 := icell_congr (by decide +kernel) _
/-- The slice written out for the first point is the named one. -/
@[sl_canon] theorem boot_islot_1_1 (hh hs) : (inM.slice (Rect.unit (s := S5x2x128x3200) (k0_off5 1#32) S1x1x128x3200.size hh) hs).squeeze S128x3200 squeezes_S1x1x128x3200_S128x3200 = islot 1 1 := islot_congr (by decide +kernel) _ _
/-- The slice written out for the first point is the named one. -/
@[sl_canon] theorem boot_src_1_1 (hh hs) : (xM.slice (Rect.unit (s := S8x2x128x16000) (k0_off6 1#32 1#32) S1x1x128x3200.size hh) hs).squeeze S128x3200 squeezes_S1x1x128x3200_S128x3200 = src 1 1 := src_congr (by decide +kernel) _ _
/-- The slice written out for the first point is the named one. -/
@[sl_canon] theorem boot_icell_2_0 (hh) : (cc0_scratch3.slice (Rect.unit (s := S5x2) (k0_off1 2#32) S1x1.size hh)).squeeze S_ squeezes_S1x1_S_ = icell 2 0 := icell_congr (by decide +kernel) _
/-- The slice written out for the first point is the named one. -/
@[sl_canon] theorem boot_islot_2_0 (hh hs) : (inM.slice (Rect.unit (s := S5x2x128x3200) (k0_off2 2#32) S1x1x128x3200.size hh) hs).squeeze S128x3200 squeezes_S1x1x128x3200_S128x3200 = islot 2 0 := islot_congr (by decide +kernel) _ _
/-- The slice written out for the first point is the named one. -/
@[sl_canon] theorem boot_src_2_0 (hh hs) : (xM.slice (Rect.unit (s := S8x2x128x16000) (k0_off3 2#32 2#32) S1x1x128x3200.size hh) hs).squeeze S128x3200 squeezes_S1x1x128x3200_S128x3200 = src 2 0 := src_congr (by decide +kernel) _ _
/-- The slice written out for the first point is the named one. -/
@[sl_canon] theorem boot_icell_2_1 (hh) : (cc0_scratch3.slice (Rect.unit (s := S5x2) (k0_off4 2#32) S1x1.size hh)).squeeze S_ squeezes_S1x1_S_ = icell 2 1 := icell_congr (by decide +kernel) _
/-- The slice written out for the first point is the named one. -/
@[sl_canon] theorem boot_islot_2_1 (hh hs) : (inM.slice (Rect.unit (s := S5x2x128x3200) (k0_off5 2#32) S1x1x128x3200.size hh) hs).squeeze S128x3200 squeezes_S1x1x128x3200_S128x3200 = islot 2 1 := islot_congr (by decide +kernel) _ _
/-- The slice written out for the first point is the named one. -/
@[sl_canon] theorem boot_src_2_1 (hh hs) : (xM.slice (Rect.unit (s := S8x2x128x16000) (k0_off6 2#32 2#32) S1x1x128x3200.size hh) hs).squeeze S128x3200 squeezes_S1x1x128x3200_S128x3200 = src 2 1 := src_congr (by decide +kernel) _ _
/-- The slice written out for the first point is the named one. -/
@[sl_canon] theorem boot_icell_3_0 (hh) : (cc0_scratch3.slice (Rect.unit (s := S5x2) (k0_off1 3#32) S1x1.size hh)).squeeze S_ squeezes_S1x1_S_ = icell 3 0 := icell_congr (by decide +kernel) _
/-- The slice written out for the first point is the named one. -/
@[sl_canon] theorem boot_islot_3_0 (hh hs) : (inM.slice (Rect.unit (s := S5x2x128x3200) (k0_off2 3#32) S1x1x128x3200.size hh) hs).squeeze S128x3200 squeezes_S1x1x128x3200_S128x3200 = islot 3 0 := islot_congr (by decide +kernel) _ _
/-- The slice written out for the first point is the named one. -/
@[sl_canon] theorem boot_src_3_0 (hh hs) : (xM.slice (Rect.unit (s := S8x2x128x16000) (k0_off3 3#32 3#32) S1x1x128x3200.size hh) hs).squeeze S128x3200 squeezes_S1x1x128x3200_S128x3200 = src 3 0 := src_congr (by decide +kernel) _ _
/-- The slice written out for the first point is the named one. -/
@[sl_canon] theorem boot_icell_3_1 (hh) : (cc0_scratch3.slice (Rect.unit (s := S5x2) (k0_off4 3#32) S1x1.size hh)).squeeze S_ squeezes_S1x1_S_ = icell 3 1 := icell_congr (by decide +kernel) _
/-- The slice written out for the first point is the named one. -/
@[sl_canon] theorem boot_islot_3_1 (hh hs) : (inM.slice (Rect.unit (s := S5x2x128x3200) (k0_off5 3#32) S1x1x128x3200.size hh) hs).squeeze S128x3200 squeezes_S1x1x128x3200_S128x3200 = islot 3 1 := islot_congr (by decide +kernel) _ _
/-- The slice written out for the first point is the named one. -/
@[sl_canon] theorem boot_src_3_1 (hh hs) : (xM.slice (Rect.unit (s := S8x2x128x16000) (k0_off6 3#32 3#32) S1x1x128x3200.size hh) hs).squeeze S128x3200 squeezes_S1x1x128x3200_S128x3200 = src 3 1 := src_congr (by decide +kernel) _ _
/-- The computed offset in closed form. -/
theorem off7_eq : ∀ t : Fin grid0.N, t.val + 4 < 40 → k0_off7 (grid0.coords t) = cellOff (Ring.sl 5 (t.val + 4)) 0 := by decide +kernel
/-- The slice at the computed offset is the named one. -/
@[sl_canon] theorem canon7 (t : Fin grid0.N) (ht : t.val + 4 < 40) (hh) : (cc0_scratch3.slice (Rect.unit (s := S5x2) (k0_off7 (grid0.coords t)) S1x1.size hh)).squeeze S_ squeezes_S1x1_S_ = icell (Ring.sl 5 (t.val + 4)) 0 := icell_congr (off7_eq t ht) _
/-- The computed offset in closed form. -/
theorem off8_eq : ∀ t : Fin grid0.N, t.val + 4 < 40 → k0_off8 (grid0.coords t) = slotOff (Ring.sl 5 (t.val + 4)) 0 := by decide +kernel
/-- The slice at the computed offset is the named one. -/
@[sl_canon] theorem canon8 (t : Fin grid0.N) (ht : t.val + 4 < 40) (hh hs) : (inM.slice (Rect.unit (s := S5x2x128x3200) (k0_off8 (grid0.coords t)) S1x1x128x3200.size hh) hs).squeeze S128x3200 squeezes_S1x1x128x3200_S128x3200 = islot (Ring.sl 5 (t.val + 4)) 0 := islot_congr (off8_eq t ht) _ _
/-- The computed offset in closed form. -/
theorem off9_eq : ∀ t : Fin grid0.N, t.val + 4 < 40 → k0_off9 (grid0.coords t) = blkOff (Ring.bk 40 (t.val + 4)) 0 := by decide +kernel
/-- The slice at the computed offset is the named one. -/
@[sl_canon] theorem canon9 (t : Fin grid0.N) (ht : t.val + 4 < 40) (hh hs) : (xM.slice (Rect.unit (s := S8x2x128x16000) (k0_off9 (grid0.coords t)) S1x1x128x3200.size hh) hs).squeeze S128x3200 squeezes_S1x1x128x3200_S128x3200 = src (Ring.bk 40 (t.val + 4)) 0 := src_congr (off9_eq t ht) _ _
/-- The computed offset in closed form. -/
theorem off10_eq : ∀ t : Fin grid0.N, t.val + 4 < 40 → k0_off10 (grid0.coords t) = cellOff (Ring.sl 5 (t.val + 4)) 1 := by decide +kernel
/-- The slice at the computed offset is the named one. -/
@[sl_canon] theorem canon10 (t : Fin grid0.N) (ht : t.val + 4 < 40) (hh) : (cc0_scratch3.slice (Rect.unit (s := S5x2) (k0_off10 (grid0.coords t)) S1x1.size hh)).squeeze S_ squeezes_S1x1_S_ = icell (Ring.sl 5 (t.val + 4)) 1 := icell_congr (off10_eq t ht) _
/-- The computed offset in closed form. -/
theorem off11_eq : ∀ t : Fin grid0.N, t.val + 4 < 40 → k0_off11 (grid0.coords t) = slotOff (Ring.sl 5 (t.val + 4)) 1 := by decide +kernel
/-- The slice at the computed offset is the named one. -/
@[sl_canon] theorem canon11 (t : Fin grid0.N) (ht : t.val + 4 < 40) (hh hs) : (inM.slice (Rect.unit (s := S5x2x128x3200) (k0_off11 (grid0.coords t)) S1x1x128x3200.size hh) hs).squeeze S128x3200 squeezes_S1x1x128x3200_S128x3200 = islot (Ring.sl 5 (t.val + 4)) 1 := islot_congr (off11_eq t ht) _ _
/-- The computed offset in closed form. -/
theorem off12_eq : ∀ t : Fin grid0.N, t.val + 4 < 40 → k0_off12 (grid0.coords t) = blkOff (Ring.bk 40 (t.val + 4)) 1 := by decide +kernel
/-- The slice at the computed offset is the named one. -/
@[sl_canon] theorem canon12 (t : Fin grid0.N) (ht : t.val + 4 < 40) (hh hs) : (xM.slice (Rect.unit (s := S8x2x128x16000) (k0_off12 (grid0.coords t)) S1x1x128x3200.size hh) hs).squeeze S128x3200 squeezes_S1x1x128x3200_S128x3200 = src (Ring.bk 40 (t.val + 4)) 1 := src_congr (off12_eq t ht) _ _
/-- The computed offset in closed form. -/
theorem off13_eq : ∀ t : Fin grid0.N, k0_off13 (grid0.coords t) = cellOff (Ring.sl 5 t.val) 0 := by decide +kernel
/-- The slice at the computed offset is the named one. -/
@[sl_canon] theorem canon13 (t : Fin grid0.N) (hh) : (cc0_scratch3.slice (Rect.unit (s := S5x2) (k0_off13 (grid0.coords t)) S1x1.size hh)).squeeze S_ squeezes_S1x1_S_ = icell (Ring.sl 5 t.val) 0 := icell_congr (off13_eq t) _
/-- The computed offset in closed form. -/
theorem off14_eq : ∀ t : Fin grid0.N, k0_off14 (grid0.coords t) = slotOff (Ring.sl 5 t.val) 0 := by decide +kernel
/-- The slice at the computed offset is the named one. -/
@[sl_canon] theorem canon14 (t : Fin grid0.N) (hh hs) : (inM.slice (Rect.unit (s := S5x2x128x3200) (k0_off14 (grid0.coords t)) S1x1x128x3200.size hh) hs).squeeze S128x3200 squeezes_S1x1x128x3200_S128x3200 = islot (Ring.sl 5 t.val) 0 := islot_congr (off14_eq t) _ _
/-- The computed offset in closed form. -/
theorem off15_eq : ∀ t : Fin grid0.N, k0_off15 (grid0.coords t) = cellOff (Ring.sl 5 t.val) 1 := by decide +kernel
/-- The slice at the computed offset is the named one. -/
@[sl_canon] theorem canon15 (t : Fin grid0.N) (hh) : (cc0_scratch3.slice (Rect.unit (s := S5x2) (k0_off15 (grid0.coords t)) S1x1.size hh)).squeeze S_ squeezes_S1x1_S_ = icell (Ring.sl 5 t.val) 1 := icell_congr (off15_eq t) _
/-- The computed offset in closed form. -/
theorem off16_eq : ∀ t : Fin grid0.N, k0_off16 (grid0.coords t) = slotOff (Ring.sl 5 t.val) 1 := by decide +kernel
/-- The slice at the computed offset is the named one. -/
@[sl_canon] theorem canon16 (t : Fin grid0.N) (hh hs) : (inM.slice (Rect.unit (s := S5x2x128x3200) (k0_off16 (grid0.coords t)) S1x1x128x3200.size hh) hs).squeeze S128x3200 squeezes_S1x1x128x3200_S128x3200 = islot (Ring.sl 5 t.val) 1 := islot_congr (off16_eq t) _ _
/-- The computed offset in closed form. -/
theorem off19_eq : ∀ t : Fin grid0.N, k0_off19 (grid0.coords t) = cellOff (Ring.sl 2 t.val) 0 := by decide +kernel
/-- The slice at the computed offset is the named one. -/
@[sl_canon] theorem canon19 (t : Fin grid0.N) (hh) : (cc0_scratch4.slice (Rect.unit (s := S2x2) (k0_off19 (grid0.coords t)) S1x1.size hh)).squeeze S_ squeezes_S1x1_S_ = ocell (Ring.sl 2 t.val) 0 := ocell_congr (off19_eq t) _
/-- The computed offset in closed form. -/
theorem off20_eq : ∀ t : Fin grid0.N, k0_off20 (grid0.coords t) = slotOff (Ring.sl 2 t.val) 0 := by decide +kernel
/-- The slice at the computed offset is the named one. -/
@[sl_canon] theorem canon20 (t : Fin grid0.N) (hh hs) : (outM.slice (Rect.unit (s := S2x2x128x3200) (k0_off20 (grid0.coords t)) S1x1x128x3200.size hh) hs).squeeze S128x3200 squeezes_S1x1x128x3200_S128x3200 = oslot (Ring.sl 2 t.val) 0 := oslot_congr (off20_eq t) _ _
/-- The computed offset in closed form. -/
theorem off21_eq : ∀ t : Fin grid0.N, k0_off21 (grid0.coords t) = cellOff (Ring.sl 2 t.val) 1 := by decide +kernel
/-- The slice at the computed offset is the named one. -/
@[sl_canon] theorem canon21 (t : Fin grid0.N) (hh) : (cc0_scratch4.slice (Rect.unit (s := S2x2) (k0_off21 (grid0.coords t)) S1x1.size hh)).squeeze S_ squeezes_S1x1_S_ = ocell (Ring.sl 2 t.val) 1 := ocell_congr (off21_eq t) _
/-- The computed offset in closed form. -/
theorem off22_eq : ∀ t : Fin grid0.N, k0_off22 (grid0.coords t) = slotOff (Ring.sl 2 t.val) 1 := by decide +kernel
/-- The slice at the computed offset is the named one. -/
@[sl_canon] theorem canon22 (t : Fin grid0.N) (hh hs) : (outM.slice (Rect.unit (s := S2x2x128x3200) (k0_off22 (grid0.coords t)) S1x1x128x3200.size hh) hs).squeeze S128x3200 squeezes_S1x1x128x3200_S128x3200 = oslot (Ring.sl 2 t.val) 1 := oslot_congr (off22_eq t) _ _
/-- The computed offset in closed form. -/
theorem off33_eq : ∀ t : Fin grid0.N, k0_off33 (grid0.coords t) = cellOff (Ring.sl 2 t.val) 0 := by decide +kernel
/-- The slice at the computed offset is the named one. -/
@[sl_canon] theorem canon33 (t : Fin grid0.N) (hh) : (cc0_scratch4.slice (Rect.unit (s := S2x2) (k0_off33 (grid0.coords t)) S1x1.size hh)).squeeze S_ squeezes_S1x1_S_ = ocell (Ring.sl 2 t.val) 0 := ocell_congr (off33_eq t) _
/-- The computed offset in closed form. -/
theorem off34_eq : ∀ t : Fin grid0.N, k0_off34 (grid0.coords t) = blkOff (Ring.bk 40 t.val) 0 := by decide +kernel
/-- The slice at the computed offset is the named one. -/
@[sl_canon] theorem canon34 (t : Fin grid0.N) (hh hs) : (oM.slice (Rect.unit (s := S8x2x128x16000) (k0_off34 (grid0.coords t)) S1x1x128x3200.size hh) hs).squeeze S128x3200 squeezes_S1x1x128x3200_S128x3200 = dst (Ring.bk 40 t.val) 0 := dst_congr (off34_eq t) _ _
/-- The computed offset in closed form. -/
theorem off35_eq : ∀ t : Fin grid0.N, k0_off35 (grid0.coords t) = slotOff (Ring.sl 2 t.val) 0 := by decide +kernel
/-- The slice at the computed offset is the named one. -/
@[sl_canon] theorem canon35 (t : Fin grid0.N) (hh hs) : (outM.slice (Rect.unit (s := S2x2x128x3200) (k0_off35 (grid0.coords t)) S1x1x128x3200.size hh) hs).squeeze S128x3200 squeezes_S1x1x128x3200_S128x3200 = oslot (Ring.sl 2 t.val) 0 := oslot_congr (off35_eq t) _ _
/-- The computed offset in closed form. -/
theorem off36_eq : ∀ t : Fin grid0.N, k0_off36 (grid0.coords t) = cellOff (Ring.sl 2 t.val) 1 := by decide +kernel
/-- The slice at the computed offset is the named one. -/
@[sl_canon] theorem canon36 (t : Fin grid0.N) (hh) : (cc0_scratch4.slice (Rect.unit (s := S2x2) (k0_off36 (grid0.coords t)) S1x1.size hh)).squeeze S_ squeezes_S1x1_S_ = ocell (Ring.sl 2 t.val) 1 := ocell_congr (off36_eq t) _
/-- The computed offset in closed form. -/
theorem off37_eq : ∀ t : Fin grid0.N, k0_off37 (grid0.coords t) = blkOff (Ring.bk 40 t.val) 1 := by decide +kernel
/-- The slice at the computed offset is the named one. -/
@[sl_canon] theorem canon37 (t : Fin grid0.N) (hh hs) : (oM.slice (Rect.unit (s := S8x2x128x16000) (k0_off37 (grid0.coords t)) S1x1x128x3200.size hh) hs).squeeze S128x3200 squeezes_S1x1x128x3200_S128x3200 = dst (Ring.bk 40 t.val) 1 := dst_congr (off37_eq t) _ _
/-- The computed offset in closed form. -/
theorem off38_eq : ∀ t : Fin grid0.N, k0_off38 (grid0.coords t) = slotOff (Ring.sl 2 t.val) 1 := by decide +kernel
/-- The slice at the computed offset is the named one. -/
@[sl_canon] theorem canon38 (t : Fin grid0.N) (hh hs) : (outM.slice (Rect.unit (s := S2x2x128x3200) (k0_off38 (grid0.coords t)) S1x1x128x3200.size hh) hs).squeeze S128x3200 squeezes_S1x1x128x3200_S128x3200 = oslot (Ring.sl 2 t.val) 1 := oslot_congr (off38_eq t) _ _
/-- The computed offset in closed form. -/
theorem off39_eq : ∀ t : Fin grid0.N, k0_off39 (grid0.coords t) = cellOff (Ring.sl 2 t.val) 0 := by decide +kernel
/-- The slice at the computed offset is the named one. -/
@[sl_canon] theorem canon39 (t : Fin grid0.N) (hh) : (cc0_scratch4.slice (Rect.unit (s := S2x2) (k0_off39 (grid0.coords t)) S1x1.size hh)).squeeze S_ squeezes_S1x1_S_ = ocell (Ring.sl 2 t.val) 0 := ocell_congr (off39_eq t) _
/-- The computed offset in closed form. -/
theorem off40_eq : ∀ t : Fin grid0.N, k0_off40 (grid0.coords t) = slotOff (Ring.sl 2 t.val) 0 := by decide +kernel
/-- The slice at the computed offset is the named one. -/
@[sl_canon] theorem canon40 (t : Fin grid0.N) (hh hs) : (outM.slice (Rect.unit (s := S2x2x128x3200) (k0_off40 (grid0.coords t)) S1x1x128x3200.size hh) hs).squeeze S128x3200 squeezes_S1x1x128x3200_S128x3200 = oslot (Ring.sl 2 t.val) 0 := oslot_congr (off40_eq t) _ _
/-- The computed offset in closed form. -/
theorem off41_eq : ∀ t : Fin grid0.N, k0_off41 (grid0.coords t) = cellOff (Ring.sl 2 (t.val + 1)) 0 := by decide +kernel
/-- The slice at the computed offset is the named one. -/
@[sl_canon] theorem canon41 (t : Fin grid0.N) (hh) : (cc0_scratch4.slice (Rect.unit (s := S2x2) (k0_off41 (grid0.coords t)) S1x1.size hh)).squeeze S_ squeezes_S1x1_S_ = ocell (Ring.sl 2 (t.val + 1)) 0 := ocell_congr (off41_eq t) _
/-- The computed offset in closed form. -/
theorem off42_eq : ∀ t : Fin grid0.N, k0_off42 (grid0.coords t) = slotOff (Ring.sl 2 (t.val + 1)) 0 := by decide +kernel
/-- The slice at the computed offset is the named one. -/
@[sl_canon] theorem canon42 (t : Fin grid0.N) (hh hs) : (outM.slice (Rect.unit (s := S2x2x128x3200) (k0_off42 (grid0.coords t)) S1x1x128x3200.size hh) hs).squeeze S128x3200 squeezes_S1x1x128x3200_S128x3200 = oslot (Ring.sl 2 (t.val + 1)) 0 := oslot_congr (off42_eq t) _ _
/-- The computed offset in closed form. -/
theorem off43_eq : ∀ t : Fin grid0.N, k0_off43 (grid0.coords t) = cellOff (Ring.sl 2 t.val) 1 := by decide +kernel
/-- The slice at the computed offset is the named one. -/
@[sl_canon] theorem canon43 (t : Fin grid0.N) (hh) : (cc0_scratch4.slice (Rect.unit (s := S2x2) (k0_off43 (grid0.coords t)) S1x1.size hh)).squeeze S_ squeezes_S1x1_S_ = ocell (Ring.sl 2 t.val) 1 := ocell_congr (off43_eq t) _
/-- The computed offset in closed form. -/
theorem off44_eq : ∀ t : Fin grid0.N, k0_off44 (grid0.coords t) = slotOff (Ring.sl 2 t.val) 1 := by decide +kernel
/-- The slice at the computed offset is the named one. -/
@[sl_canon] theorem canon44 (t : Fin grid0.N) (hh hs) : (outM.slice (Rect.unit (s := S2x2x128x3200) (k0_off44 (grid0.coords t)) S1x1x128x3200.size hh) hs).squeeze S128x3200 squeezes_S1x1x128x3200_S128x3200 = oslot (Ring.sl 2 t.val) 1 := oslot_congr (off44_eq t) _ _
/-- The computed offset in closed form. -/
theorem off45_eq : ∀ t : Fin grid0.N, k0_off45 (grid0.coords t) = cellOff (Ring.sl 2 (t.val + 1)) 1 := by decide +kernel
/-- The slice at the computed offset is the named one. -/
@[sl_canon] theorem canon45 (t : Fin grid0.N) (hh) : (cc0_scratch4.slice (Rect.unit (s := S2x2) (k0_off45 (grid0.coords t)) S1x1.size hh)).squeeze S_ squeezes_S1x1_S_ = ocell (Ring.sl 2 (t.val + 1)) 1 := ocell_congr (off45_eq t) _
/-- The computed offset in closed form. -/
theorem off46_eq : ∀ t : Fin grid0.N, k0_off46 (grid0.coords t) = slotOff (Ring.sl 2 (t.val + 1)) 1 := by decide +kernel
/-- The slice at the computed offset is the named one. -/
@[sl_canon] theorem canon46 (t : Fin grid0.N) (hh hs) : (outM.slice (Rect.unit (s := S2x2x128x3200) (k0_off46 (grid0.coords t)) S1x1x128x3200.size hh) hs).squeeze S128x3200 squeezes_S1x1x128x3200_S128x3200 = oslot (Ring.sl 2 (t.val + 1)) 1 := oslot_congr (off46_eq t) _ _
/-- The computed offset in closed form. -/
theorem off17_eq : ∀ t : Fin grid0.N, k0_off17 (grid0.coords t) = slotOff (Ring.sl 5 t.val) 0 := by decide +kernel
instance (t : Fin grid0.N) : ClosedOff (k0_off17 (grid0.coords t)) := ⟨![(Ring.sl 5 t.val).val, 0, 0, 0], off17_eq t⟩
/-- The computed offset in closed form. -/
theorem off18_eq : ∀ t : Fin grid0.N, k0_off18 (grid0.coords t) = slotOff (Ring.sl 5 t.val) 1 := by decide +kernel
instance (t : Fin grid0.N) : ClosedOff (k0_off18 (grid0.coords t)) := ⟨![(Ring.sl 5 t.val).val, 1, 0, 0], off18_eq t⟩
/-- The computed offset in closed form. -/
theorem off23_eq : ∀ t : Fin grid0.N, k0_off23 (grid0.coords t) = ![(Ring.sl 2 t.val).val, 0, 0, 0] := by decide +kernel
instance (t : Fin grid0.N) : ClosedOff (k0_off23 (grid0.coords t)) := ⟨![(Ring.sl 2 t.val).val, 0, 0, 0], off23_eq t⟩
/-- The computed offset in closed form. -/
theorem off24_eq : ∀ t : Fin grid0.N, k0_off24 (grid0.coords t) = ![(Ring.sl 2 t.val).val, 1, 0, 0] := by decide +kernel
instance (t : Fin grid0.N) : ClosedOff (k0_off24 (grid0.coords t)) := ⟨![(Ring.sl 2 t.val).val, 1, 0, 0], off24_eq t⟩
/-- The computed offset in closed form. -/
theorem off25_eq : ∀ t : Fin grid0.N, k0_off25 (grid0.coords t) = ![(Ring.sl 2 t.val).val, 0, 0, 640] := by decide +kernel
instance (t : Fin grid0.N) : ClosedOff (k0_off25 (grid0.coords t)) := ⟨![(Ring.sl 2 t.val).val, 0, 0, 640], off25_eq t⟩
/-- The computed offset in closed form. -/
theorem off26_eq : ∀ t : Fin grid0.N, k0_off26 (grid0.coords t) = ![(Ring.sl 2 t.val).val, 1, 0, 640] := by decide +kernel
instance (t : Fin grid0.N) : ClosedOff (k0_off26 (grid0.coords t)) := ⟨![(Ring.sl 2 t.val).val, 1, 0, 640], off26_eq t⟩
/-- The computed offset in closed form. -/
theorem off27_eq : ∀ t : Fin grid0.N, k0_off27 (grid0.coords t) = ![(Ring.sl 2 t.val).val, 0, 0, 1280] := by decide +kernel
instance (t : Fin grid0.N) : ClosedOff (k0_off27 (grid0.coords t)) := ⟨![(Ring.sl 2 t.val).val, 0, 0, 1280], off27_eq t⟩
/-- The computed offset in closed form. -/
theorem off28_eq : ∀ t : Fin grid0.N, k0_off28 (grid0.coords t) = ![(Ring.sl 2 t.val).val, 1, 0, 1280] := by decide +kernel
instance (t : Fin grid0.N) : ClosedOff (k0_off28 (grid0.coords t)) := ⟨![(Ring.sl 2 t.val).val, 1, 0, 1280], off28_eq t⟩
/-- The computed offset in closed form. -/
theorem off29_eq : ∀ t : Fin grid0.N, k0_off29 (grid0.coords t) = ![(Ring.sl 2 t.val).val, 0, 0, 1920] := by decide +kernel
instance (t : Fin grid0.N) : ClosedOff (k0_off29 (grid0.coords t)) := ⟨![(Ring.sl 2 t.val).val, 0, 0, 1920], off29_eq t⟩
/-- The computed offset in closed form. -/
theorem off30_eq : ∀ t : Fin grid0.N, k0_off30 (grid0.coords t) = ![(Ring.sl 2 t.val).val, 1, 0, 1920] := by decide +kernel
instance (t : Fin grid0.N) : ClosedOff (k0_off30 (grid0.coords t)) := ⟨![(Ring.sl 2 t.val).val, 1, 0, 1920], off30_eq t⟩
/-- The computed offset in closed form. -/
theorem off31_eq : ∀ t : Fin grid0.N, k0_off31 (grid0.coords t) = ![(Ring.sl 2 t.val).val, 0, 0, 2560] := by decide +kernel
instance (t : Fin grid0.N) : ClosedOff (k0_off31 (grid0.coords t)) := ⟨![(Ring.sl 2 t.val).val, 0, 0, 2560], off31_eq t⟩
/-- The computed offset in closed form. -/
theorem off32_eq : ∀ t : Fin grid0.N, k0_off32 (grid0.coords t) = ![(Ring.sl 2 t.val).val, 1, 0, 2560] := by decide +kernel
instance (t : Fin grid0.N) : ClosedOff (k0_off32 (grid0.coords t)) := ⟨![(Ring.sl 2 t.val).val, 1, 0, 2560], off32_eq t⟩

/-! ### The conditions at grid point `t` -/

/-- The first condition holds at the first point alone. -/
theorem cond1_iff : ∀ t : Fin grid0.N, k0_cond1 (grid0.coords t) = 1#1 ↔ t.val = 0 := by decide +kernel
/-- The second condition holds where a block four points on exists. -/
theorem cond2_iff : ∀ t : Fin grid0.N, k0_cond2 (grid0.coords t) = 1#1 ↔ t.val + 4 < 40 := by decide +kernel
/-- The fourth condition holds from the third point on. -/
theorem cond4_iff : ∀ t : Fin grid0.N, k0_cond4 (grid0.coords t) = 1#1 ↔ 2 ≤ t.val := by decide +kernel
/-- The fifth condition holds at the last point alone. -/
theorem cond5_iff : ∀ t : Fin grid0.N, k0_cond5 (grid0.coords t) = 1#1 ↔ t.val = 39 := by decide +kernel
/-- The word that says whether grid point `t` begins a sequence. -/
def first (t : Fin grid0.N) : BitVec 1 :=
  Scalar.cmpi .ne (Scalar.extui (Scalar.cmpi .eq (BitVec.ofNat 32 (grid0.coords t 1).val) 0#32) : BitVec 32) 0#32
/-- A grid point begins a sequence exactly when it is a multiple of five. -/
theorem first_iff : ∀ t : Fin grid0.N, first t = 1#1 ↔ t.val % 5 = 0 := by decide +kernel

end Cert.KernelIdeal.Hand

end
-- ==== Proof.IInput.lean ====
module

public import proofs.«01_k».proof.Proof.INames

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ
abbrev 𝒱₀ : Variants := Variants.none

section Pieces
variable (c : Dev nD) (XA : Buf (Elt F) (xM.view.loc (c : Thread nD τ)))

abbrev icellP (s : Fin 5) (h : Fin 2) : sProp 𝕄 := semVal ((c : Thread nD τ), SemLoc.dma (icell s h).sem) 0
abbrev ocellP (s : Fin 2) (h : Fin 2) : sProp 𝕄 := semVal ((c : Thread nD τ), SemLoc.dma (ocell s h).sem) 0
abbrev islotP (s : Fin 5) (h : Fin 2) (f : Buf (Elt F) ((islot s h).view.loc (c : Thread nD τ))) : sProp 𝕄 :=
  (islot s h).view.loc (c : Thread nD τ) ↦[(islot s h).view.set]{fullShare} f
abbrev oslotP (s : Fin 2) (h : Fin 2) (f : Buf (Elt F) ((oslot s h).view.loc (c : Thread nD τ))) : sProp 𝕄 :=
  (oslot s h).view.loc (c : Thread nD τ) ↦[(oslot s h).view.set]{fullShare} f
abbrev srcP (k : Fin 40) (h : Fin 2) : sProp 𝕄 := (src k h).view.loc (c : Thread nD τ) ↦[(src k h).view.set]{fullShare} XA
abbrev dstP (k : Fin 40) (h : Fin 2) (f : Buf (Elt F) ((dst k h).view.loc (c : Thread nD τ))) : sProp 𝕄 :=
  (dst k h).view.loc (c : Thread nD τ) ↦[(dst k h).view.set]{fullShare} f
abbrev payload (k : Fin 40) (h : Fin 2) : S128x3200.Idx → Elt F .f32 := ReadAs.same.apply ((src k h).view.read (Elt F) XA)
abbrev landed (s : Fin 5) (k : Fin 40) (h : Fin 2) (f : Buf (Elt F) ((islot s h).view.loc (c : Thread nD τ))) : Buf (Elt F) ((islot s h).view.loc (c : Thread nD τ)) :=
  (islot s h).view.writes (Elt F) f [⟨Rect.whole S128x3200, payload c XA k h⟩]
abbrev NN : ℕ := 51200
abbrev iflightP (s : Fin 5) (k : Fin 40) (h : Fin 2) (f : Buf (Elt F) ((islot s h).view.loc (c : Thread nD τ))) : sProp 𝕄 :=
  Transfers.Flight countersEmb (c : Thread nD τ) (SemLoc.dma (icell s h).sem) () NN iprop(islotP c s h (landed c XA s k h f) ∗ srcP c XA k h)
abbrev carryP (f : Buf (Elt F) (carryM.view.loc (c : Thread nD τ))) : sProp 𝕄 :=
  carryM.view.loc (c : Thread nD τ) ↦{fullShare} f
end Pieces

section Ring4
variable (c : Dev nD) (XA : Buf (Elt F) (xM.view.loc (c : Thread nD τ)))

/-- Slot `s` of the input ring, free: its two halves at anything, its two cells at zero. -/
abbrev ifree (s : Fin 5) : sProp 𝕄 := iprop((∃ f, islotP c s 0 f) ∗ (∃ f, islotP c s 1 f) ∗ icellP c s 0 ∗ icellP c s 1)
/-- Block `k` of the input, home. -/
abbrev home (k : Fin 40) : sProp 𝕄 := iprop(srcP c XA k 0 ∗ srcP c XA k 1)
/-- Block `k` of the input, on its way into its slot. -/
abbrev inF (k : ℕ) : sProp 𝕄 :=
  iprop((∃ f, iflightP c XA (Ring.sl 5 k) (Ring.bk 40 k) 0 f) ∗ (∃ f, iflightP c XA (Ring.sl 5 k) (Ring.bk 40 k) 1 f))
/-- The slot of block `k`: in flight with it, or free when there is no block `k`. -/
def inR (k : ℕ) : sProp 𝕄 := if k < 40 then inF c XA k else ifree c (Ring.sl 5 k)
/-- The slot of block `k`, holding it. -/
abbrev slotHas (k : ℕ) : sProp 𝕄 :=
  iprop((∃ f, islotP c (Ring.sl 5 k) 0 (landed c XA (Ring.sl 5 k) (Ring.bk 40 k) 0 f))
    ∗ (∃ f, islotP c (Ring.sl 5 k) 1 (landed c XA (Ring.sl 5 k) (Ring.bk 40 k) 1 f)) ∗ icellP c (Ring.sl 5 k) 0 ∗ icellP c (Ring.sl 5 k) 1)
/-- The input ring before grid point `p`: nothing started before the first; four blocks ahead after. -/
def Φin (p : ℕ) : sProp 𝕄 :=
  if p = 0 then iprop((ifree c 0 ∗ ifree c 1 ∗ ifree c 2 ∗ ifree c 3 ∗ ifree c 4) ∗ bigSep Finset.univ (home c XA))
  else iprop((inR c XA p ∗ inR c XA (p + 1) ∗ inR c XA (p + 2) ∗ inR c XA (p + 3) ∗ ifree c (Ring.sl 5 (p + 4))) ∗ bigSep (Ring.homeSet 4 p) (home c XA))
/-- The input ring within grid point `p`, its own block arrived. -/
def Mid (p : ℕ) : sProp 𝕄 :=
  iprop(slotHas c XA p ∗ (inR c XA (p + 1) ∗ inR c XA (p + 2) ∗ inR c XA (p + 3) ∗ inR c XA (p + 4)) ∗ bigSep (Ring.homeSet 4 (p + 1)) (home c XA))

/-- A ring slot whose block exists is in flight. -/
theorem inR_lt {k : ℕ} (h : k < 40) : inR c XA k = inF c XA k := if_pos h
/-- A ring slot past the last block is free. -/
theorem inR_ge {k : ℕ} (h : ¬ k < 40) : inR c XA k = ifree c (Ring.sl 5 k) := if_neg h
/-- Before the first point the input ring is free and every block is at home. -/
theorem Φin_zero : Φin c XA 0 = iprop((ifree c 0 ∗ ifree c 1 ∗ ifree c 2 ∗ ifree c 3 ∗ ifree c 4) ∗ bigSep Finset.univ (home c XA)) := if_pos rfl
/-- Before a later point four blocks are in flight and one slot is free. -/
theorem Φin_pos {p : ℕ} (h : p ≠ 0) : Φin c XA p = iprop((inR c XA p ∗ inR c XA (p + 1) ∗ inR c XA (p + 2) ∗ inR c XA (p + 3) ∗ ifree c (Ring.sl 5 (p + 4))) ∗ bigSep (Ring.homeSet 4 p) (home c XA)) := if_neg h

/-- The blocks home at the first point: those it starts, and the rest. -/
theorem homes_first : bigSep Finset.univ (home c XA)
    = iprop(home c XA 0 ∗ home c XA 1 ∗ home c XA 2 ∗ home c XA 3 ∗ home c XA 4 ∗ bigSep (Finset.univ.filter fun b : Fin 40 => 5 ≤ b.val) (home c XA)) := by
  have e : (Finset.univ : Finset (Fin 40)) = insert 0 (insert 1 (insert 2 (insert 3 (insert 4 (Finset.univ.filter fun b : Fin 40 => 5 ≤ b.val))))) := by decide +kernel
  conv_lhs => rw [e, bigSep_insert (by decide +kernel), bigSep_insert (by decide +kernel), bigSep_insert (by decide +kernel), bigSep_insert (by decide +kernel), bigSep_insert (by decide +kernel)]
  rfl
/-- The blocks at home after the first four copies. -/
theorem homes_second : bigSep (Ring.homeSet 4 1) (home c XA)
    = iprop(home c XA 0 ∗ bigSep (Finset.univ.filter fun b : Fin 40 => 5 ≤ b.val) (home c XA)) := by
  have e : (Ring.homeSet 4 1 : Finset (Fin 40)) = insert 0 (Finset.univ.filter fun b : Fin 40 => 5 ≤ b.val) := by decide +kernel
  conv_lhs => rw [e, bigSep_insert (by decide +kernel)]
  rfl
/-- The next block to be copied, taken out of those at home. -/
theorem homes_here (k : ℕ) (hk : k + 4 < 40) :
    bigSep (Ring.homeSet 4 k) (home c XA) = iprop(home c XA (Ring.bk 40 (k + 4)) ∗ bigSep ((Ring.homeSet 4 k).erase (Ring.bk 40 (k + 4))) (home c XA)) := by
  conv_lhs => rw [Ring.homeSet_out 4 k hk, bigSep_insert (Ring.bkL_not_mem_erase 4 k)]
  rfl
/-- The blocks at home at the next point, where a copy was issued. -/
theorem homes_next (k : ℕ) (hk : k + 4 < 40) :
    bigSep (Ring.homeSet 4 (k + 1)) (home c XA) = iprop(home c XA (Ring.bk 40 k) ∗ bigSep ((Ring.homeSet 4 k).erase (Ring.bk 40 (k + 4))) (home c XA)) := by
  conv_lhs => rw [Ring.homeSet_succ 4 k hk, bigSep_insert (Ring.bk_not_mem_erase 4 k (by omega) (by decide))]
  rfl
/-- The blocks at home at the next point, where none was issued. -/
theorem homes_tail (k : ℕ) (h1 : 40 ≤ k + 4) (h2 : k < 40) :
    bigSep (Ring.homeSet 4 (k + 1)) (home c XA) = iprop(home c XA (Ring.bk 40 k) ∗ bigSep (Ring.homeSet 4 k) (home c XA)) := by
  conv_lhs => rw [Ring.homeSet_succ_tail 4 k h1 h2, bigSep_insert (Ring.bk_not_mem_homeSet 4 k h2 (by decide))]
  rfl

/-- Five points on, the ring is at the same slot. -/
theorem sl5_add (k : ℕ) : Ring.sl 5 (k + 1 + 4) = Ring.sl 5 k := by rw [show k + 1 + 4 = k + 5 from rfl, Ring.sl_add]

/-- The slot of the point's block free again: the ring before the next point. -/
theorem Mid_next (p : ℕ) : Mid c XA p ⊢ Φin c XA (p + 1) := by
  rw [Φin_pos c XA (Nat.succ_ne_zero p), sl5_add]
  unfold Mid
  iintro ⟨⟨⟨%f0, Hs0⟩, ⟨%f1, Hs1⟩, Hc0, Hc1⟩, ⟨H1, H2, H3, H4⟩, Hh⟩
  isplitr [Hh]
  · isplitl [H1]; · iexact H1
    isplitl [H2]; · iexact H2
    isplitl [H3]; · iexact H3
    isplitl [H4]; · iexact H4
    isplitl [Hs0]; · iexists _; iexact Hs0
    isplitl [Hs1]; · iexists _; iexact Hs1
    isplitl [Hc0]; · iexact Hc0
    iexact Hc1
  · iexact Hh

/-- Word `j` of the carry. -/
abbrev word0 (f : Buf (Elt F) (carryM.view.loc (c : Thread nD τ))) : Elt F .f32 :=
  carryM.view.readAt (Elt F) (Rect.unit (s := S2) ![0] S1.size inb_S2_S1_0).toLoadRect f (Shape.Idx.first (by decide))
abbrev word1 (f : Buf (Elt F) (carryM.view.loc (c : Thread nD τ))) : Elt F .f32 :=
  carryM.view.readAt (Elt F) (Rect.unit (s := S2) ![1] S1.size inb_S2_S1_1).toLoadRect f (Shape.Idx.first (by decide))
/-- The carry after both words were stored over `f`. -/
abbrev carryOf (f : Buf (Elt F) (carryM.view.loc (c : Thread nD τ))) (a b : F .f32) : Buf (Elt F) (carryM.view.loc (c : Thread nD τ)) :=
  carryM.view.writes (Elt F) f [⟨Rect.unit (s := S2) ![1] S1.size inb_S2_S1_1, fun _ => b⟩, ⟨Rect.unit (s := S2) ![0] S1.size inb_S2_S1_0, fun _ => a⟩]
/-- The second word of a carry just written. -/
theorem word1_carryOf (f a b) : word1 (F := F) c (carryOf c f a b) = b :=
  View.read_writes_cons_emb _ _ _ _ _ _
/-- The first word of a carry just written. -/
theorem word0_carryOf (f a b) : word0 (F := F) c (carryOf c f a b) = a := by
  refine (View.read_writes_cons_miss_of_axis (carryM.view) _ _ _ _ (0 : Fin 1) 1 1 rfl rfl rfl (Or.inl ?_)).trans ?_
  · exact Nat.one_pos
  · exact View.read_writes_cons_emb _ _ _ _ _ _
end Ring4

section Run
variable (c : Dev nD) (XA : Buf (Elt F) (xM.view.loc (c : Thread nD τ)))
  (arg3 : Memref sig .tc .vmem S2x128x128 .f32) (harg3 : arg3.IsWhole)
  (arg4 : Memref sig .tc .vmem S640x640 .bf16) (harg4 : arg4.IsWhole)
  (arg5 : Memref sig .tc .vmem S8x128 .bf16) (harg5 : arg5.IsWhole)
  (t : Fin grid0.N)

abbrev part4G := k0_part4 (F := F) (grid0.coords t) xM (Memref.isWhole_whole _) arg3 harg3 arg4 harg4 arg5 harg5 oM (Memref.isWhole_whole _)
  carryM (Memref.isWhole_whole _) inM (Memref.isWhole_whole _) outM (Memref.isWhole_whole _) cc0_scratch3 cc0_scratch4

/-- The slot of a block copied at the first point. -/
@[sl_canon] theorem sl5_first (t : Fin grid0.N) (h : t.val = 0) : Ring.sl 5 t.val = 0 := by rw [h]; rfl
/-- The number of a block copied at the first point. -/
@[sl_canon] theorem bk40_first (t : Fin grid0.N) (h : t.val = 0) : Ring.bk 40 t.val = 0 := by rw [h]; rfl
/-- The slot of a block copied at the first point. -/
@[sl_canon] theorem sl5_first4 (t : Fin grid0.N) (h : t.val = 0) : Ring.sl 5 (t.val + 4) = 4 := by rw [h]; rfl
/-- The number of a block copied at the first point. -/
@[sl_canon] theorem bk40_first4 (t : Fin grid0.N) (h : t.val = 0) : Ring.bk 40 (t.val + 4) = 4 := by rw [h]; rfl

/-- The words the first part hands on: the place in the sequence, the grid point, its slots. -/
abbrev w1 (t : Fin grid0.N) : BitVec 32 := BitVec.ofNat 32 (grid0.coords t 1).val
abbrev w0 (t : Fin grid0.N) : BitVec 32 := Scalar.addi (Scalar.muli (BitVec.ofNat 32 (grid0.coords t 0).val) 5#32) (w1 t)
abbrev ret4 (t : Fin grid0.N) : Σ' (arg1 : BitVec 32) (v1 : BitVec 32) (v9 : BitVec 32), BitVec 32 :=
  ⟨w1 t, w0 t, Scalar.remsi (w0 t) 5#32, Scalar.remsi (w0 t) 2#32⟩
/-- The zero the carry begins each sequence at. -/
abbrev zf : F .f32 := Scalar.ofBits .f32 0x00000000#32
abbrev Post4 (cf : Buf (Elt F) (carryM.view.loc (c : Thread nD τ))) : sProp 𝕄 :=
  iprop(Mid c XA t.val
    ∗ (∃ f, ⌜t.val % 5 = 0 → ∃ g, f = carryOf c g zf zf⌝ ∗ ⌜t.val % 5 ≠ 0 → f = cf⌝ ∗ carryP c f)
    ∗ ∃ W, owes (c : Thread nD τ) 0 W)

/-- The first point: four copies issued, then the fifth, and the carry set to zero. -/
theorem boot_run (h0 : t.val = 0) (cf W) (Q : _ → sProp 𝕄) :
    iprop(Φin c XA t.val ∗ carryP c cf ∗ owes (c : Thread nD τ) 0 W
        ∗ (Post4 c XA t cf -∗ Q (ret4 t)))
      ⊢ wp frame (wpE (defs₀ (F := F)) 𝒱₀ (c : Thread nD τ) none) Set.univ (part4G arg3 harg3 arg4 harg4 arg5 harg5 t) Q := by
  have ht : t.val + 4 < 40 := by omega
  have h5 : t.val % 5 = 0 := by omega
  have k0_h1 :  k0_cond1 (grid0.coords t) = 1#1 := by rw [cond1_iff]; omega
  have k0_h2 :  k0_cond2 (grid0.coords t) = 1#1 := by rw [cond2_iff]; omega
  have k0_h3 :  Scalar.cmpi .ne (Scalar.extui (Scalar.cmpi .eq (BitVec.ofNat 32 (grid0.coords t 1).val) 0#32) : BitVec 32) 0#32 = 1#1 := by
    have := first_iff t; unfold first at this; rw [this]; omega
  have e0 : Φin c XA t.val = Φin c XA 0 := by rw [h0]
  have e1 : Mid c XA t.val = Mid c XA 0 := by rw [h0]
  rw [e0, Φin_zero, homes_first]; unfold Post4; rw [e1]; unfold Mid
  rw [homes_second, inR_lt c XA (show 0 + 1 < 40 by decide), inR_lt c XA (show 0 + 2 < 40 by decide), inR_lt c XA (show 0 + 3 < 40 by decide), inR_lt c XA (show 0 + 4 < 40 by decide)]
  iintro ⟨⟨⟨⟨⟨%f00, Hs00⟩, ⟨%f01, Hs01⟩, Hc00, Hc01⟩, ⟨⟨%f10, Hs10⟩, ⟨%f11, Hs11⟩, Hc10, Hc11⟩, ⟨⟨%f20, Hs20⟩, ⟨%f21, Hs21⟩, Hc20, Hc21⟩, ⟨⟨%f30, Hs30⟩, ⟨%f31, Hs31⟩, Hc30, Hc31⟩, ⟨⟨%f40, Hs40⟩, ⟨%f41, Hs41⟩, Hc40, Hc41⟩⟩, ⟨Hh00, Hh01⟩, ⟨Hh10, Hh11⟩, ⟨Hh20, Hh21⟩, ⟨Hh30, Hh31⟩, ⟨Hh40, Hh41⟩, Hrest⟩, HC, HW, Hk⟩
  dsimp only [part4G]
  sl_rw [k0_part4_eq_skeleton]
  sl_unfold [k0_part4_skel]
  sl_exec
  sl_step
  dsimp only [boot_run.sl.v0, boot_run.sl.v1, boot_run.sl.v9, boot_run.sl.v10]
  iapply Hk
  isplitr [HC HW]
  · isplitl [Hs00 Hs01 Hc00 Hc01]
    · isplitl [Hs00]; · iexists f00; iexact Hs00
      isplitl [Hs01]; · iexists f01; iexact Hs01
      isplitl [Hc00]; · iexact Hc00
      iexact Hc01
    isplitr [Hh00 Hh01 Hrest]
    · isplitl [Hc10 Hc11]
      · isplitl [Hc10]; · iexists f10; iexact Hc10
        iexists f11; iexact Hc11
      isplitl [Hc20 Hc21]
      · isplitl [Hc20]; · iexists f20; iexact Hc20
        iexists f21; iexact Hc21
      isplitl [Hc30 Hc31]
      · isplitl [Hc30]; · iexists f30; iexact Hc30
        iexists f31; iexact Hc31
      isplitl [Hc40]; · iexists f40; iexact Hc40
      iexists f41; iexact Hc41
    isplitr [Hrest]
    · isplitl [Hh00]; · iexact Hh00
      iexact Hh01
    iexact Hrest
  isplitl [HC]
  · iexists _
    isplitr; · ipureintro; exact fun _ => ⟨cf, rfl⟩
    isplitr; · ipureintro; exact fun h => absurd h5 h
    iexact HC
  iexists _; iexact HW

/-- A point inside a sequence that issues a copy. -/
theorem issue_run (h0 : t.val ≠ 0) (ht : t.val + 4 < 40) (h5 : ¬ t.val % 5 = 0) (cf W) (Q : _ → sProp 𝕄) :
    iprop(Φin c XA t.val ∗ carryP c cf ∗ owes (c : Thread nD τ) 0 W
        ∗ (Post4 c XA t cf -∗ Q (ret4 t)))
      ⊢ wp frame (wpE (defs₀ (F := F)) 𝒱₀ (c : Thread nD τ) none) Set.univ (part4G arg3 harg3 arg4 harg4 arg5 harg5 t) Q := by
  have k0_h1 : ¬ k0_cond1 (grid0.coords t) = 1#1 := by rw [cond1_iff]; omega
  have k0_h2 :  k0_cond2 (grid0.coords t) = 1#1 := by rw [cond2_iff]; omega
  have k0_h3 : ¬ Scalar.cmpi .ne (Scalar.extui (Scalar.cmpi .eq (BitVec.ofNat 32 (grid0.coords t 1).val) 0#32) : BitVec 32) 0#32 = 1#1 := by
    have := first_iff t; unfold first at this; rw [this]; omega
  unfold Post4 Mid
  rw [Φin_pos c XA h0, homes_here c XA t.val ht, homes_next c XA t.val ht, inR_lt c XA (show t.val < 40 by omega), inR_lt c XA (show t.val + 4 < 40 by omega)]
  iintro ⟨⟨⟨⟨⟨%f0, Hf0⟩, ⟨%f1, Hf1⟩⟩, H1, H2, H3, ⟨⟨%g0, Hs0⟩, ⟨%g1, Hs1⟩, Hc0, Hc1⟩⟩, ⟨Hh0, Hh1⟩, Hrest⟩, HC, HW, Hk⟩
  dsimp only [part4G]
  sl_rw [k0_part4_eq_skeleton]
  sl_unfold [k0_part4_skel]
  sl_exec
  sl_step
  dsimp only [issue_run.sl.v0, issue_run.sl.v1, issue_run.sl.v9, issue_run.sl.v10]
  iapply Hk
  isplitr [HC HW]
  · isplitl [Hf0_dst Hf1_dst Hf0 Hf1]
    · isplitl [Hf0_dst]; · iexists f0; iexact Hf0_dst
      isplitl [Hf1_dst]; · iexists f1; iexact Hf1_dst
      isplitl [Hf0]; · iexact Hf0
      iexact Hf1
    isplitr [Hf0_src Hf1_src Hrest]
    · isplitl [H1]; · iexact H1
      isplitl [H2]; · iexact H2
      isplitl [H3]; · iexact H3
      isplitl [Hc0]; · iexists g0; iexact Hc0
      iexists g1; iexact Hc1
    isplitr [Hrest]
    · isplitl [Hf0_src]; · iexact Hf0_src
      iexact Hf1_src
    iexact Hrest
  isplitl [HC]
  · iexists cf
    isplitr; · ipureintro; exact fun h => absurd h h5
    isplitr; · ipureintro; exact fun _ => rfl
    iexact HC
  iexists _; iexact HW

/-- A point that begins a sequence and issues a copy. -/
theorem issue_reset_run (h0 : t.val ≠ 0) (ht : t.val + 4 < 40) (h5 : t.val % 5 = 0) (cf W) (Q : _ → sProp 𝕄) :
    iprop(Φin c XA t.val ∗ carryP c cf ∗ owes (c : Thread nD τ) 0 W
        ∗ (Post4 c XA t cf -∗ Q (ret4 t)))
      ⊢ wp frame (wpE (defs₀ (F := F)) 𝒱₀ (c : Thread nD τ) none) Set.univ (part4G arg3 harg3 arg4 harg4 arg5 harg5 t) Q := by
  have k0_h1 : ¬ k0_cond1 (grid0.coords t) = 1#1 := by rw [cond1_iff]; omega
  have k0_h2 :  k0_cond2 (grid0.coords t) = 1#1 := by rw [cond2_iff]; omega
  have k0_h3 :  Scalar.cmpi .ne (Scalar.extui (Scalar.cmpi .eq (BitVec.ofNat 32 (grid0.coords t 1).val) 0#32) : BitVec 32) 0#32 = 1#1 := by
    have := first_iff t; unfold first at this; rw [this]; omega
  unfold Post4 Mid
  rw [Φin_pos c XA h0, homes_here c XA t.val ht, homes_next c XA t.val ht, inR_lt c XA (show t.val < 40 by omega), inR_lt c XA (show t.val + 4 < 40 by omega)]
  iintro ⟨⟨⟨⟨⟨%f0, Hf0⟩, ⟨%f1, Hf1⟩⟩, H1, H2, H3, ⟨⟨%g0, Hs0⟩, ⟨%g1, Hs1⟩, Hc0, Hc1⟩⟩, ⟨Hh0, Hh1⟩, Hrest⟩, HC, HW, Hk⟩
  dsimp only [part4G]
  sl_rw [k0_part4_eq_skeleton]
  sl_unfold [k0_part4_skel]
  sl_exec
  sl_step
  dsimp only [issue_reset_run.sl.v0, issue_reset_run.sl.v1, issue_reset_run.sl.v9, issue_reset_run.sl.v10]
  iapply Hk
  isplitr [HC HW]
  · isplitl [Hf0_dst Hf1_dst Hf0 Hf1]
    · isplitl [Hf0_dst]; · iexists f0; iexact Hf0_dst
      isplitl [Hf1_dst]; · iexists f1; iexact Hf1_dst
      isplitl [Hf0]; · iexact Hf0
      iexact Hf1
    isplitr [Hf0_src Hf1_src Hrest]
    · isplitl [H1]; · iexact H1
      isplitl [H2]; · iexact H2
      isplitl [H3]; · iexact H3
      isplitl [Hc0]; · iexists g0; iexact Hc0
      iexists g1; iexact Hc1
    isplitr [Hrest]
    · isplitl [Hf0_src]; · iexact Hf0_src
      iexact Hf1_src
    iexact Hrest
  isplitl [HC]
  · iexists _
    isplitr; · ipureintro; exact fun _ => ⟨cf, rfl⟩
    isplitr; · ipureintro; exact fun h => absurd h5 h
    iexact HC
  iexists _; iexact HW

/-- A point near the end, where no copy is left to issue. -/
theorem tail_run (h0 : t.val ≠ 0) (ht : ¬ t.val + 4 < 40) (h5 : ¬ t.val % 5 = 0) (cf W) (Q : _ → sProp 𝕄) :
    iprop(Φin c XA t.val ∗ carryP c cf ∗ owes (c : Thread nD τ) 0 W
        ∗ (Post4 c XA t cf -∗ Q (ret4 t)))
      ⊢ wp frame (wpE (defs₀ (F := F)) 𝒱₀ (c : Thread nD τ) none) Set.univ (part4G arg3 harg3 arg4 harg4 arg5 harg5 t) Q := by
  have h40 : t.val < 40 := t.isLt
  have k0_h1 : ¬ k0_cond1 (grid0.coords t) = 1#1 := by rw [cond1_iff]; omega
  have k0_h2 : ¬ k0_cond2 (grid0.coords t) = 1#1 := by rw [cond2_iff]; omega
  have k0_h3 : ¬ Scalar.cmpi .ne (Scalar.extui (Scalar.cmpi .eq (BitVec.ofNat 32 (grid0.coords t 1).val) 0#32) : BitVec 32) 0#32 = 1#1 := by
    have := first_iff t; unfold first at this; rw [this]; omega
  unfold Post4 Mid
  rw [Φin_pos c XA h0, homes_tail c XA t.val (by omega) h40, inR_lt c XA h40, inR_ge c XA ht]
  iintro ⟨⟨⟨⟨⟨%f0, Hf0⟩, ⟨%f1, Hf1⟩⟩, H1, H2, H3, H4⟩, Hrest⟩, HC, HW, Hk⟩
  dsimp only [part4G]
  sl_rw [k0_part4_eq_skeleton]
  sl_unfold [k0_part4_skel]
  sl_exec
  sl_step
  dsimp only [tail_run.sl.v0, tail_run.sl.v1, tail_run.sl.v9, tail_run.sl.v10]
  iapply Hk
  isplitr [HC HW]
  · isplitl [Hf0_dst Hf1_dst Hf0 Hf1]
    · isplitl [Hf0_dst]; · iexists f0; iexact Hf0_dst
      isplitl [Hf1_dst]; · iexists f1; iexact Hf1_dst
      isplitl [Hf0]; · iexact Hf0
      iexact Hf1
    isplitr [Hf0_src Hf1_src Hrest]
    · isplitl [H1]; · iexact H1
      isplitl [H2]; · iexact H2
      isplitl [H3]; · iexact H3
      iexact H4
    isplitr [Hrest]
    · isplitl [Hf0_src]; · iexact Hf0_src
      iexact Hf1_src
    iexact Hrest
  isplitl [HC]
  · iexists cf
    isplitr; · ipureintro; exact fun h => absurd h h5
    isplitr; · ipureintro; exact fun _ => rfl
    iexact HC
  iexists _; iexact HW

/-- The opening of the body at any point, from the four cases. -/
theorem part4_run  (cf W) (Q : _ → sProp 𝕄) :
    iprop(Φin c XA t.val ∗ carryP c cf ∗ owes (c : Thread nD τ) 0 W
        ∗ (Post4 c XA t cf -∗ Q (ret4 t)))
      ⊢ wp frame (wpE (defs₀ (F := F)) 𝒱₀ (c : Thread nD τ) none) Set.univ (part4G arg3 harg3 arg4 harg4 arg5 harg5 t) Q := by
  by_cases h0 : t.val = 0
  · exact boot_run c XA arg3 harg3 arg4 harg4 arg5 harg5 t h0 cf W Q
  have h40 : t.val < 40 := t.isLt
  by_cases ht : t.val + 4 < 40 <;> by_cases h5 : t.val % 5 = 0
  · exact issue_reset_run c XA arg3 harg3 arg4 harg4 arg5 harg5 t h0 ht h5 cf W Q
  · exact issue_run c XA arg3 harg3 arg4 harg4 arg5 harg5 t h0 ht h5 cf W Q
  · omega
  · exact tail_run c XA arg3 harg3 arg4 harg4 arg5 harg5 t h0 ht h5 cf W Q
end Run

end Cert.KernelIdeal.Hand

end
-- ==== Proof.ICompute.lean ====
module

public import proofs.«01_k».proof.Proof.IInput

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Tiles
variable (a1 : BitVec 32) (x0 x1 : Vec F S1x1x128x3200 .f32) (r5 : Vec F S8x128 .bf16) (r4 : Vec F S640x640 .bf16) (wr0 wr1 : Vec F S1x128x128 .f32) (a b : F .f32)

/-- The running sums within each sub-block of the point's block, of the entries and of their squares. -/
abbrev sums : FVec F S10x640 .f32 := k0_pay3 x0 x1 r5 r4
/-- The place of each lane within its sub-block. -/
abbrev lanes : IVec S1x640 32 := iota .tc S1x640 32 [1] iota_S1x640_d1_w32
/-- The carried sum after one to five sub-blocks, from `a`. -/
abbrev ca1 : F .f32 := k0_pay8 (sums x0 x1 r5 r4) a
abbrev ca2 : F .f32 := k0_pay18 (sums x0 x1 r5 r4) (ca1 x0 x1 r5 r4 a)
abbrev ca3 : F .f32 := k0_pay29 (sums x0 x1 r5 r4) (ca2 x0 x1 r5 r4 a)
abbrev ca4 : F .f32 := k0_pay39 (sums x0 x1 r5 r4) (ca3 x0 x1 r5 r4 a)
abbrev ca5 : F .f32 := k0_pay48 (sums x0 x1 r5 r4) (ca4 x0 x1 r5 r4 a)
/-- The carried sum of squares after one to five sub-blocks, from `b`. -/
abbrev cb1 : F .f32 := k0_pay9 (sums x0 x1 r5 r4) b
abbrev cb2 : F .f32 := k0_pay19 (sums x0 x1 r5 r4) (cb1 x0 x1 r5 r4 b)
abbrev cb3 : F .f32 := k0_pay30 (sums x0 x1 r5 r4) (cb2 x0 x1 r5 r4 b)
abbrev cb4 : F .f32 := k0_pay40 (sums x0 x1 r5 r4) (cb3 x0 x1 r5 r4 b)
abbrev cb5 : F .f32 := k0_pay49 (sums x0 x1 r5 r4) (cb4 x0 x1 r5 r4 b)
/-- What each sub-block stores, for each half of the channels. -/
abbrev t00 : Vec F S1x1x128x640 .f32 := k0_pay13 a1 (k0_pay1 x0) (sums x0 x1 r5 r4) (k0_pay4 wr0) a b
abbrev t01 : Vec F S1x1x128x640 .f32 := k0_pay15 (k0_pay5 wr1) (k0_pay12 a1 (sums x0 x1 r5 r4) a b) (k0_pay14 a1 (k0_pay2 x1) (sums x0 x1 r5 r4) a)
abbrev t10 : Vec F S1x1x128x640 .f32 := k0_pay23 a1 (k0_pay1 x0) (sums x0 x1 r5 r4) (k0_pay4 wr0) lanes (ca1 x0 x1 r5 r4 a) (cb1 x0 x1 r5 r4 b)
abbrev t11 : Vec F S1x1x128x640 .f32 := k0_pay26 (k0_pay5 wr1) (k0_pay22 a1 (sums x0 x1 r5 r4) lanes (ca1 x0 x1 r5 r4 a) (cb1 x0 x1 r5 r4 b)) (k0_pay24 (k0_pay2 x1)) (k0_pay25 a1 (sums x0 x1 r5 r4) lanes (ca1 x0 x1 r5 r4 a))
abbrev t20 : Vec F S1x1x128x640 .f32 := k0_pay34 a1 (k0_pay1 x0) (sums x0 x1 r5 r4) (k0_pay4 wr0) lanes (ca2 x0 x1 r5 r4 a) (cb2 x0 x1 r5 r4 b)
abbrev t21 : Vec F S1x1x128x640 .f32 := k0_pay36 (k0_pay5 wr1) (k0_pay32 a1 (sums x0 x1 r5 r4) lanes (ca2 x0 x1 r5 r4 a)) (k0_pay33 a1 (sums x0 x1 r5 r4) lanes (ca2 x0 x1 r5 r4 a) (cb2 x0 x1 r5 r4 b)) (k0_pay35 (k0_pay2 x1))
abbrev t30 : Vec F S1x1x128x640 .f32 := k0_pay44 a1 (k0_pay1 x0) (sums x0 x1 r5 r4) (k0_pay4 wr0) lanes (ca3 x0 x1 r5 r4 a) (cb3 x0 x1 r5 r4 b)
abbrev t31 : Vec F S1x1x128x640 .f32 := k0_pay45 (k0_pay2 x1) (k0_pay5 wr1) (k0_pay42 a1 (sums x0 x1 r5 r4) lanes (ca3 x0 x1 r5 r4 a)) (k0_pay43 a1 (sums x0 x1 r5 r4) lanes (ca3 x0 x1 r5 r4 a) (cb3 x0 x1 r5 r4 b))
abbrev t40 : Vec F S1x1x128x640 .f32 := k0_pay53 a1 (k0_pay1 x0) (sums x0 x1 r5 r4) (k0_pay4 wr0) lanes (ca4 x0 x1 r5 r4 a) (cb4 x0 x1 r5 r4 b)
abbrev t41 : Vec F S1x1x128x640 .f32 := k0_pay54 (k0_pay2 x1) (k0_pay5 wr1) (k0_pay51 a1 (sums x0 x1 r5 r4) lanes (ca4 x0 x1 r5 r4 a)) (k0_pay52 a1 (sums x0 x1 r5 r4) lanes (ca4 x0 x1 r5 r4 a) (cb4 x0 x1 r5 r4 b))

variable (t : Fin grid0.N) (c : Dev nD)
/-- The first half of the point's output slot after the five sub-blocks, over `fy`. -/
abbrev obuf0 (fy : Buf (Elt F) (outM.view.loc (c : Thread nD τ))) : Buf (Elt F) (outM.view.loc (c : Thread nD τ)) :=
  outM.view.writes (Elt F) fy
    [⟨Rect.unit (s := S2x2x128x3200) (k0_off31 (grid0.coords t)) S1x1x128x640.size (k0_off31_inb _), t40 a1 x0 x1 r5 r4 wr0 a b⟩,
     ⟨Rect.unit (s := S2x2x128x3200) (k0_off29 (grid0.coords t)) S1x1x128x640.size (k0_off29_inb _), t30 a1 x0 x1 r5 r4 wr0 a b⟩,
     ⟨Rect.unit (s := S2x2x128x3200) (k0_off27 (grid0.coords t)) S1x1x128x640.size (k0_off27_inb _), t20 a1 x0 x1 r5 r4 wr0 a b⟩,
     ⟨Rect.unit (s := S2x2x128x3200) (k0_off25 (grid0.coords t)) S1x1x128x640.size (k0_off25_inb _), t10 a1 x0 x1 r5 r4 wr0 a b⟩,
     ⟨Rect.unit (s := S2x2x128x3200) (k0_off23 (grid0.coords t)) S1x1x128x640.size (k0_off23_inb _), t00 a1 x0 x1 r5 r4 wr0 a b⟩]
/-- The second half of the point's output slot after the five sub-blocks, over `fy`. -/
abbrev obuf1 (fy : Buf (Elt F) (outM.view.loc (c : Thread nD τ))) : Buf (Elt F) (outM.view.loc (c : Thread nD τ)) :=
  outM.view.writes (Elt F) fy
    [⟨Rect.unit (s := S2x2x128x3200) (k0_off32 (grid0.coords t)) S1x1x128x640.size (k0_off32_inb _), t41 a1 x0 x1 r5 r4 wr1 a b⟩,
     ⟨Rect.unit (s := S2x2x128x3200) (k0_off30 (grid0.coords t)) S1x1x128x640.size (k0_off30_inb _), t31 a1 x0 x1 r5 r4 wr1 a b⟩,
     ⟨Rect.unit (s := S2x2x128x3200) (k0_off28 (grid0.coords t)) S1x1x128x640.size (k0_off28_inb _), t21 a1 x0 x1 r5 r4 wr1 a b⟩,
     ⟨Rect.unit (s := S2x2x128x3200) (k0_off26 (grid0.coords t)) S1x1x128x640.size (k0_off26_inb _), t11 a1 x0 x1 r5 r4 wr1 a b⟩,
     ⟨Rect.unit (s := S2x2x128x3200) (k0_off24 (grid0.coords t)) S1x1x128x640.size (k0_off24_inb _), t01 a1 x0 x1 r5 r4 wr1 a b⟩]
end Tiles

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54

section OutRing
variable (c : Dev nD)

/-- Half `h` of block `k` of the result once half `h` of slot `s`, holding `fy`, has been copied over `fd`. -/
abbrev sent (s : Fin 2) (k : Fin 40) (h : Fin 2) (fy : Buf (Elt F) ((oslot s h).view.loc (c : Thread nD τ))) (fd : Buf (Elt F) ((dst k h).view.loc (c : Thread nD τ))) :
    Buf (Elt F) ((dst k h).view.loc (c : Thread nD τ)) :=
  (dst k h).view.writes (Elt F) fd [⟨Rect.whole S128x3200, ReadAs.same.apply ((oslot s h).view.read (Elt F) fy)⟩]
/-- Half `h` of slot `s` of the output ring on its way to half `h` of block `k` of the result. -/
abbrev oflightP (s : Fin 2) (k : Fin 40) (h : Fin 2) (fy : Buf (Elt F) ((oslot s h).view.loc (c : Thread nD τ))) (fd : Buf (Elt F) ((dst k h).view.loc (c : Thread nD τ))) : sProp 𝕄 :=
  Transfers.Flight countersEmb (c : Thread nD τ) (SemLoc.dma (ocell s h).sem) () NN
    iprop(dstP c k h (sent c s k h fy fd) ∗ oslotP c s h fy)
end OutRing

section Run
variable (c : Dev nD) (XA : Buf (Elt F) (xM.view.loc (c : Thread nD τ)))
  (arg3 : Memref sig .tc .vmem S2x128x128 .f32) (harg3 : arg3.IsWhole)
  (arg4 : Memref sig .tc .vmem S640x640 .bf16) (harg4 : arg4.IsWhole)
  (arg5 : Memref sig .tc .vmem S8x128 .bf16) (harg5 : arg5.IsWhole)
  (t : Fin grid0.N)

abbrev part11G := k0_part11 (F := F) (grid0.coords t) xM (Memref.isWhole_whole _) arg3 harg3 arg4 harg4 arg5 harg5 oM (Memref.isWhole_whole _)
  carryM (Memref.isWhole_whole _) inM (Memref.isWhole_whole _) outM (Memref.isWhole_whole _) cc0_scratch3 cc0_scratch4

/-- The two halves of the point's block, as loaded from the slot they landed in. -/
abbrev ld0 : Vec F S1x1x128x3200 .f32 :=
  View.readAt (Elt F) inM.view (Rect.unit (s := S5x2x128x3200) (k0_off17 (grid0.coords t)) S1x1x128x3200.size (k0_off17_inb _)).toLoadRect
    ((islot (Ring.sl 5 t.val) 0).view.writes (Elt F) (islot (Ring.sl 5 t.val) 0).view.junk [⟨Rect.whole S128x3200, payload c XA (Ring.bk 40 t.val) 0⟩])
abbrev ld1 : Vec F S1x1x128x3200 .f32 :=
  View.readAt (Elt F) inM.view (Rect.unit (s := S5x2x128x3200) (k0_off18 (grid0.coords t)) S1x1x128x3200.size (k0_off18_inb _)).toLoadRect
    ((islot (Ring.sl 5 t.val) 1).view.writes (Elt F) (islot (Ring.sl 5 t.val) 1).view.junk [⟨Rect.whole S128x3200, payload c XA (Ring.bk 40 t.val) 1⟩])

abbrev ret11 : Σ' (v10 : BitVec 32), BitVec 1 := ⟨Scalar.remsi (w0 t) 2#32, Scalar.cmpi .eq (w0 t) 39#32⟩

/-- What the computation leaves, beside what the slots' earlier copies brought. -/
abbrev PostC (x0 x1 : Vec F S1x1x128x3200 .f32) (r5 : Vec F S8x128 .bf16) (r4 : Vec F S640x640 .bf16) (wr0 wr1 : Vec F S1x128x128 .f32) (a b : F .f32)
    (g3 : Buf (Elt F) (arg3.view.loc (c : Thread nD τ))) (g4 : Buf (Elt F) (arg4.view.loc (c : Thread nD τ))) (g5 : Buf (Elt F) (arg5.view.loc (c : Thread nD τ)))
    (fy0 fy1 : Buf (Elt F) (outM.view.loc (c : Thread nD τ))) (fe0 fe1 : Buf (Elt F) (oM.view.loc (c : Thread nD τ))) : sProp 𝕄 :=
  iprop(Mid c XA t.val ∗ (∃ fc, carryP c (carryOf c fc (ca5 x0 x1 r5 r4 a) (cb5 x0 x1 r5 r4 b))) ∗ (∃ W, owes (c : Thread nD τ) 0 W)
        ∗ (arg3.view.loc (c : Thread nD τ) ↦[arg3.view.set]{fullShare} g3) ∗ (arg4.view.loc (c : Thread nD τ) ↦[arg4.view.set]{fullShare} g4)
        ∗ (arg5.view.loc (c : Thread nD τ) ↦[arg5.view.set]{fullShare} g5)
        ∗ oflightP c (Ring.sl 2 t.val) (Ring.bk 40 t.val) 0 (obuf0 (w1 t) x0 x1 r5 r4 wr0 a b t c fy0) fe0
        ∗ oflightP c (Ring.sl 2 t.val) (Ring.bk 40 t.val) 1 (obuf1 (w1 t) x0 x1 r5 r4 wr1 a b t c fy1) fe1)

set_option maxHeartbeats 1000000 in
/-- The computation at a point that first waits for the copies out of its output slot of two points before. -/
theorem comp_late_run (h2 : 2 ≤ t.val) (cf W) (x0 x1 : Vec F S1x1x128x3200 .f32) (hx0 : x0 = ld0 c XA t) (hx1 : x1 = ld1 c XA t)
    (r5 : Vec F S8x128 .bf16) (r4 : Vec F S640x640 .bf16) (wr0 wr1 : Vec F S1x128x128 .f32) (a b : F .f32)
    (hcar : ∀ fc, (t.val % 5 = 0 → ∃ g, fc = carryOf c g zf zf) → (t.val % 5 ≠ 0 → fc = cf) → word0 c fc = a ∧ word1 c fc = b)
    (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (fy0 fy1) (fd0 fd1) (fe0 fe1) (Q : _ → sProp 𝕄) :
    iprop(Φin c XA t.val ∗ carryP c cf ∗ owes (c : Thread nD τ) 0 W
        ∗ (arg3.view.loc (c : Thread nD τ) ↦[arg3.view.set]{fullShare} g3) ∗ (arg4.view.loc (c : Thread nD τ) ↦[arg4.view.set]{fullShare} g4)
        ∗ (arg5.view.loc (c : Thread nD τ) ↦[arg5.view.set]{fullShare} g5)
        ∗ (oflightP c (Ring.sl 2 t.val) (Ring.bk 40 (t.val - 2)) 0 fy0 fd0 ∗ oflightP c (Ring.sl 2 t.val) (Ring.bk 40 (t.val - 2)) 1 fy1 fd1)
        ∗ dstP c (Ring.bk 40 t.val) 0 fe0 ∗ dstP c (Ring.bk 40 t.val) 1 fe1
        ∗ ((dstP c (Ring.bk 40 (t.val - 2)) 0 (sent c (Ring.sl 2 t.val) (Ring.bk 40 (t.val - 2)) 0 fy0 fd0) ∗ dstP c (Ring.bk 40 (t.val - 2)) 1 (sent c (Ring.sl 2 t.val) (Ring.bk 40 (t.val - 2)) 1 fy1 fd1) ∗ PostC c XA arg3 arg4 arg5 t x0 x1 r5 r4 wr0 wr1 a b g3 g4 g5 fy0 fy1 fe0 fe1) -∗ Q (ret11 t)))
      ⊢ wp frame (wpE (defs₀ (F := F)) 𝒱₀ (c : Thread nD τ) none) Set.univ (part11G arg3 harg3 arg4 harg4 arg5 harg5 t) Q := by
  have k0_h4 : k0_cond4 (grid0.coords t) = 1#1 := by rw [cond4_iff]; omega
  subst hx0 hx1 hr5 hr4 hw0 hw1
  dsimp only [part11G]
  sl_rw [k0_part11_eq_skeleton]
  sl_unfold [k0_part11_skel]
  rw [wp_bind]
  iintro ⟨HI, HC, HW, H3, H4, H5, ⟨HF0, HF1⟩, HD0, HD1, Hk⟩
  iapply (part4_run c XA arg3 harg3 arg4 harg4 arg5 harg5 t cf W)
  isplitl [HI]; · iexact HI
  isplitl [HC]; · iexact HC
  isplitl [HW]; · iexact HW
  unfold Post4 PostC Mid
  iintro ⟨⟨⟨⟨%f0, Hs0⟩, ⟨%f1, Hs1⟩, Hc0, Hc1⟩, HR, Hhm⟩, ⟨%fc, %hz, %hn, HC⟩, ⟨%W', HW⟩⟩
  obtain ⟨ha, hb⟩ := hcar fc hz hn
  subst ha hb
  sl_rw [k0_part5_eq_skeleton, k0_part6_eq_skeleton, k0_part7_eq_skeleton, k0_part8_eq_skeleton, k0_part9_eq_skeleton, k0_part10_eq_skeleton]
  sl_unfold [k0_part5_skel, k0_part6_skel, k0_part7_skel, k0_part8_skel, k0_part9_skel, k0_part10_skel]
  sl_exec
  sl_step
  dsimp only [comp_late_run.sl.v27, comp_late_run.sl.v30, comp_late_run.sl.v70, comp_late_run.sl.r, comp_late_run.sl.r_1, comp_late_run.sl.dma32, comp_late_run.sl.dma32_1, comp_late_run.sl.v324, comp_late_run.sl.HF0_src_w1, comp_late_run.sl.HF0_src_w3, comp_late_run.sl.HF0_src_w5, comp_late_run.sl.HF0_src_w7, comp_late_run.sl.HF0_src_w9, comp_late_run.sl.HF1_src_w2, comp_late_run.sl.HF1_src_w4, comp_late_run.sl.HF1_src_w6, comp_late_run.sl.HF1_src_w8, comp_late_run.sl.HF1_src_w10, ca1, cb1, ca2, cb2, ca3, cb3, ca4, cb4, ca5, cb5, t00, t01, t10, t11, t20, t21, t30, t31, t40, t41, obuf0, obuf1, sums, lanes, carryOf, word0, word1, ld0, ld1, sent]
  iapply Hk
  isplitl [HF0_dst]; · iexact HF0_dst
  isplitl [HF1_dst]; · iexact HF1_dst
  isplitl [Hs0 Hs1 Hc0 Hc1 HR Hhm]
  · isplitl [Hs0 Hs1 Hc0 Hc1]
    · isplitl [Hs0]; · iexists (islot (Ring.sl 5 t.val) 0).view.junk; iexact Hs0
      isplitl [Hs1]; · iexists (islot (Ring.sl 5 t.val) 1).view.junk; iexact Hs1
      isplitl [Hc0]; · iexact Hc0
      iexact Hc1
    isplitl [HR]; · iexact HR
    iexact Hhm
  isplitl [HC]; · iexists fc; iexact HC
  isplitl [HW]; · iexists _; iexact HW
  isplitl [H3]; · iexact H3
  isplitl [H4]; · iexact H4
  isplitl [H5]; · iexact H5
  isplitl [HF0]; · iexact HF0
  iexact HF1

set_option maxHeartbeats 1000000 in
/-- The computation at one of the first two points, whose output slot is still free. -/
theorem comp_early_run (h2 : ¬ 2 ≤ t.val) (cf W) (x0 x1 : Vec F S1x1x128x3200 .f32) (hx0 : x0 = ld0 c XA t) (hx1 : x1 = ld1 c XA t)
    (r5 : Vec F S8x128 .bf16) (r4 : Vec F S640x640 .bf16) (wr0 wr1 : Vec F S1x128x128 .f32) (a b : F .f32)
    (hcar : ∀ fc, (t.val % 5 = 0 → ∃ g, fc = carryOf c g zf zf) → (t.val % 5 ≠ 0 → fc = cf) → word0 c fc = a ∧ word1 c fc = b)
    (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (fy0 fy1) (fe0 fe1) (Q : _ → sProp 𝕄) :
    iprop(Φin c XA t.val ∗ carryP c cf ∗ owes (c : Thread nD τ) 0 W
        ∗ (arg3.view.loc (c : Thread nD τ) ↦[arg3.view.set]{fullShare} g3) ∗ (arg4.view.loc (c : Thread nD τ) ↦[arg4.view.set]{fullShare} g4)
        ∗ (arg5.view.loc (c : Thread nD τ) ↦[arg5.view.set]{fullShare} g5)
        ∗ (oslotP c (Ring.sl 2 t.val) 0 fy0 ∗ oslotP c (Ring.sl 2 t.val) 1 fy1 ∗ ocellP c (Ring.sl 2 t.val) 0 ∗ ocellP c (Ring.sl 2 t.val) 1)
        ∗ dstP c (Ring.bk 40 t.val) 0 fe0 ∗ dstP c (Ring.bk 40 t.val) 1 fe1
        ∗ ((PostC c XA arg3 arg4 arg5 t x0 x1 r5 r4 wr0 wr1 a b g3 g4 g5 fy0 fy1 fe0 fe1) -∗ Q (ret11 t)))
      ⊢ wp frame (wpE (defs₀ (F := F)) 𝒱₀ (c : Thread nD τ) none) Set.univ (part11G arg3 harg3 arg4 harg4 arg5 harg5 t) Q := by
  have k0_h4 : ¬ k0_cond4 (grid0.coords t) = 1#1 := by rw [cond4_iff]; omega
  subst hx0 hx1 hr5 hr4 hw0 hw1
  dsimp only [part11G]
  sl_rw [k0_part11_eq_skeleton]
  sl_unfold [k0_part11_skel]
  rw [wp_bind]
  iintro ⟨HI, HC, HW, H3, H4, H5, ⟨HS0, HS1, HE0, HE1⟩, HD0, HD1, Hk⟩
  iapply (part4_run c XA arg3 harg3 arg4 harg4 arg5 harg5 t cf W)
  isplitl [HI]; · iexact HI
  isplitl [HC]; · iexact HC
  isplitl [HW]; · iexact HW
  unfold Post4 PostC Mid
  iintro ⟨⟨⟨⟨%f0, Hs0⟩, ⟨%f1, Hs1⟩, Hc0, Hc1⟩, HR, Hhm⟩, ⟨%fc, %hz, %hn, HC⟩, ⟨%W', HW⟩⟩
  obtain ⟨ha, hb⟩ := hcar fc hz hn
  subst ha hb
  sl_rw [k0_part5_eq_skeleton, k0_part6_eq_skeleton, k0_part7_eq_skeleton, k0_part8_eq_skeleton, k0_part9_eq_skeleton, k0_part10_eq_skeleton]
  sl_unfold [k0_part5_skel, k0_part6_skel, k0_part7_skel, k0_part8_skel, k0_part9_skel, k0_part10_skel]
  sl_exec
  sl_step
  dsimp only [comp_early_run.sl.v27, comp_early_run.sl.v30, comp_early_run.sl.v70, comp_early_run.sl.r, comp_early_run.sl.r_1, comp_early_run.sl.dma32, comp_early_run.sl.dma32_1, comp_early_run.sl.v324, comp_early_run.sl.HS0_w1, comp_early_run.sl.HS0_w3, comp_early_run.sl.HS0_w5, comp_early_run.sl.HS0_w7, comp_early_run.sl.HS0_w9, comp_early_run.sl.HS1_w2, comp_early_run.sl.HS1_w4, comp_early_run.sl.HS1_w6, comp_early_run.sl.HS1_w8, comp_early_run.sl.HS1_w10, ca1, cb1, ca2, cb2, ca3, cb3, ca4, cb4, ca5, cb5, t00, t01, t10, t11, t20, t21, t30, t31, t40, t41, obuf0, obuf1, sums, lanes, carryOf, word0, word1, ld0, ld1, sent]
  iapply Hk
  isplitl [Hs0 Hs1 Hc0 Hc1 HR Hhm]
  · isplitl [Hs0 Hs1 Hc0 Hc1]
    · isplitl [Hs0]; · iexists (islot (Ring.sl 5 t.val) 0).view.junk; iexact Hs0
      isplitl [Hs1]; · iexists (islot (Ring.sl 5 t.val) 1).view.junk; iexact Hs1
      isplitl [Hc0]; · iexact Hc0
      iexact Hc1
    isplitl [HR]; · iexact HR
    iexact Hhm
  isplitl [HC]; · iexists fc; iexact HC
  isplitl [HW]; · iexists _; iexact HW
  isplitl [H3]; · iexact H3
  isplitl [H4]; · iexact H4
  isplitl [H5]; · iexact H5
  isplitl [HE0]; · iexact HE0
  iexact HE1
end Run

end Cert.KernelIdeal.Hand

end
-- ==== Proof.IBlocks.lean ====
module

public import proofs.«01_k».proof.Proof.ICompute
public import Idealize.ShloMosaic.Lib.Pointwise
public import Idealize.ShloMosaic.Lib.Pipeline.Value

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Reads
/-- The index of a slice of one entry on the first two axes, read without them. -/
theorem flat_idx (y : S128x3200.Idx) :
    (S1x1x128x3200.rowMajor (ix4 (0 : Fin 1) (0 : Fin 1) (y 0) (y 1) : S1x1x128x3200.Idx)).val = (S128x3200.rowMajor y).val := by
  rw [rowMajor_val4 (d := ![1, 1, 128, 3200]) _ 409600 409600 3200 rfl rfl rfl, rowMajor_val2 (d := ![128, 3200]) _ 3200 rfl]
  simp

/-- A squeezed slice of one entry on the first two of four axes reads as the slice does. -/
theorem read_sq {κ : Kind} {cs : Space} {d : Fin 4 → ℕ} (M : Memref sig κ cs ⟨4, d⟩ .f32) (off : Fin 4 → ℕ) (inb) (hr)
    (hq : (Rect.unit (s := ⟨4, d⟩) off S1x1x128x3200.size inb).shape.Squeezes S128x3200) (f : M.view.ty.Contents (Elt F)) (y : S128x3200.Idx) :
    ((M.slice (Rect.unit (s := ⟨4, d⟩) off S1x1x128x3200.size inb) hr).squeeze S128x3200 hq).view.read (Elt F) f y
      = M.view.readAt (Elt F) (Rect.unit (s := ⟨4, d⟩) off S1x1x128x3200.size inb).toLoadRect f (ix4 (0 : Fin 1) (0 : Fin 1) (y 0) (y 1)) := by
  refine (congrFun (Memref.read_squeeze_slice M (Rect.unit (s := ⟨4, d⟩) off S1x1x128x3200.size inb) hr hq hq.numel_eq f) y).trans ?_
  exact shapeCast_apply _ _ _ _ (flat_idx y)
end Reads

section Loads
variable (c : Dev nD) (XA : Buf (Elt F) (xM.view.loc (c : Thread nD τ)))
/-- Half `h` of block `k` of the input, as a load of a whole slot reads it. -/
def xb (k : Fin 40) (h : Fin 2) : Vec F S1x1x128x3200 .f32 := fun y => payload c XA k h (ix2 (y 2) (y 3))

/-- A load of a half slot of the input ring after its copy has landed is the copied block. -/
theorem ld_eq (s : Fin 5) (h : Fin 2) (p : S128x3200.Idx → Elt F .f32) (f) (off : Fin 4 → ℕ) (e : off = slotOff s h) (inb) :
    View.readAt (Elt F) inM.view (Rect.unit (s := S5x2x128x3200) off S1x1x128x3200.size inb).toLoadRect
      ((islot s h).view.writes (Elt F) f [⟨Rect.whole S128x3200, p⟩]) = fun y => p (ix2 (y 2) (y 3)) := by
  subst e
  funext y
  have e1 : (islot s h).view.read (Elt F) ((islot s h).view.writes (Elt F) f [⟨Rect.whole S128x3200, p⟩]) = p := by
    funext z
    have := View.read_writes_cons_emb (islot s h).view f (Rect.whole S128x3200) p [] z
    rwa [Rect.emb_whole_apply] at this
  have e2 := congrFun e1 (ix2 (y 2) (y 3))
  rw [← e2]
  refine Eq.trans ?_ (read_sq inM (slotOff s h) (slot5_inb s h) (fun _ => rfl) squeezes_S1x1x128x3200_S128x3200 _ (ix2 (y 2) (y 3))).symm
  refine congrArg _ ?_
  funext a
  fin_cases a
  · exact Fin.ext (by have := (y 0).isLt; simp at this ⊢; omega)
  · exact Fin.ext (by have := (y 1).isLt; simp at this ⊢; omega)
  · rfl
  · rfl

/-- The point's load of the first half is the first half of its block. -/
theorem ld0_eq (t : Fin grid0.N) : ld0 c XA t = xb c XA (Ring.bk 40 t.val) 0 := ld_eq _ 0 _ _ _ (off17_eq t) _
/-- The point's load of the second half is the second half of its block. -/
theorem ld1_eq (t : Fin grid0.N) : ld1 c XA t = xb c XA (Ring.bk 40 t.val) 1 := ld_eq _ 1 _ _ _ (off18_eq t) _
end Loads

section Tiles
/-- One of five, by number. -/
def pick {α : Type} (w0 w1 w2 w3 w4 : α) (q : ℕ) : α :=
  if q = 0 then w0 else if q = 1 then w1 else if q = 2 then w2 else if q = 3 then w3 else w4

variable (c : Dev nD)
/-- Five stores side by side into half `h` of slot `s` of the output ring, read back: each lane from the store that covers it. -/
theorem read_five (s h : Fin 2) (fy : Buf (Elt F) (outM.view.loc (c : Thread nD τ))) (v0 v1 v2 v3 v4 : Vec F S1x1x128x640 .f32) (o0 o1 o2 o3 o4 : Fin 4 → ℕ)
    (e0 : o0 = ![s.val, h.val, 0, 0]) (e1 : o1 = ![s.val, h.val, 0, 640]) (e2 : o2 = ![s.val, h.val, 0, 1280]) (e3 : o3 = ![s.val, h.val, 0, 1920])
    (e4 : o4 = ![s.val, h.val, 0, 2560]) (i0 i1 i2 i3 i4) (y : S128x3200.Idx) :
    (oslot s h).view.read (Elt F) (outM.view.writes (Elt F) fy
      [⟨Rect.unit (s := S2x2x128x3200) o4 S1x1x128x640.size i4, v4⟩, ⟨Rect.unit (s := S2x2x128x3200) o3 S1x1x128x640.size i3, v3⟩,
       ⟨Rect.unit (s := S2x2x128x3200) o2 S1x1x128x640.size i2, v2⟩, ⟨Rect.unit (s := S2x2x128x3200) o1 S1x1x128x640.size i1, v1⟩,
       ⟨Rect.unit (s := S2x2x128x3200) o0 S1x1x128x640.size i0, v0⟩]) y
      = pick v0 v1 v2 v3 v4 ((y 1).val / 640) (ix4 (0 : Fin 1) (0 : Fin 1) (y 0) (⟨(y 1).val % 640, Nat.mod_lt _ (by decide)⟩ : Fin 640)) := by
  refine (read_sq outM (slotOff s h) (slot2_inb s h) (fun _ => rfl) squeezes_S1x1x128x3200_S128x3200 _ y).trans ?_
  show outM.view.read (Elt F) _ ((Rect.unit (s := S2x2x128x3200) (slotOff s h) S1x1x128x3200.size (slot2_inb s h)).emb (ix4 (0 : Fin 1) (0 : Fin 1) (y 0) (y 1))) = _
  have hz : (Rect.unit (s := S2x2x128x3200) (slotOff s h) S1x1x128x3200.size (slot2_inb s h)).emb (ix4 (0 : Fin 1) (0 : Fin 1) (y 0) (y 1)) = (ix4 s h (y 0) (y 1) : S2x2x128x3200.Idx) := by
    funext a
    refine Fin.ext ?_
    rw [Rect.emb_apply]
    fin_cases a <;> simp [slotOff]
  rw [hz]
  have hy : (y 1).val < 3200 := (y 1).isLt
  subst e0 e1 e2 e3 e4
  by_cases h4 : 2560 ≤ (y 1).val
  · have hq : (y 1).val / 640 = 4 := by omega
    rw [hq]
    refine View.read_writes_cons_hit_of_coords _ _ _ _ _ _ _ fun a => ?_
    fin_cases a <;> simp <;> omega
  refine (View.read_writes_cons_miss_of_axis _ _ _ _ _ (3 : Fin 4) 2560 640 rfl rfl rfl (Or.inl (by show (y 1).val < 2560; omega))).trans ?_
  by_cases h3 : 1920 ≤ (y 1).val
  · have hq : (y 1).val / 640 = 3 := by omega
    rw [hq]
    refine View.read_writes_cons_hit_of_coords _ _ _ _ _ _ _ fun a => ?_
    fin_cases a <;> simp <;> omega
  refine (View.read_writes_cons_miss_of_axis _ _ _ _ _ (3 : Fin 4) 1920 640 rfl rfl rfl (Or.inl (by show (y 1).val < 1920; omega))).trans ?_
  by_cases h2 : 1280 ≤ (y 1).val
  · have hq : (y 1).val / 640 = 2 := by omega
    rw [hq]
    refine View.read_writes_cons_hit_of_coords _ _ _ _ _ _ _ fun a => ?_
    fin_cases a <;> simp <;> omega
  refine (View.read_writes_cons_miss_of_axis _ _ _ _ _ (3 : Fin 4) 1280 640 rfl rfl rfl (Or.inl (by show (y 1).val < 1280; omega))).trans ?_
  by_cases h1 : 640 ≤ (y 1).val
  · have hq : (y 1).val / 640 = 1 := by omega
    rw [hq]
    refine View.read_writes_cons_hit_of_coords _ _ _ _ _ _ _ fun a => ?_
    fin_cases a <;> simp <;> omega
  refine (View.read_writes_cons_miss_of_axis _ _ _ _ _ (3 : Fin 4) 640 640 rfl rfl rfl (Or.inl (by show (y 1).val < 640; omega))).trans ?_
  have hq : (y 1).val / 640 = 0 := by omega
  rw [hq]
  refine View.read_writes_cons_hit_of_coords _ _ _ _ _ _ _ fun a => ?_
  fin_cases a <;> simp <;> omega
end Tiles

section Result
variable (c : Dev nD) (XA : Buf (Elt F) (xM.view.loc (c : Thread nD τ)))
  (r5 : Vec F S8x128 .bf16) (r4 : Vec F S640x640 .bf16) (wr0 wr1 : Vec F S1x128x128 .f32)

/-- The carried sums before point `k`: zero at the start of each sequence. -/
def car : ℕ → F .f32 × F .f32
  | 0 => (zf, zf)
  | k + 1 => if (k + 1) % 5 = 0 then (zf, zf)
      else (ca5 (xb c XA (Ring.bk 40 k) 0) (xb c XA (Ring.bk 40 k) 1) r5 r4 (car k).1, cb5 (xb c XA (Ring.bk 40 k) 0) (xb c XA (Ring.bk 40 k) 1) r5 r4 (car k).2)
/-- The carry is zero at the start of a sequence. -/
theorem car_first (k : ℕ) (h : k % 5 = 0) : car c XA r5 r4 k = (zf, zf) := by
  cases k with
  | zero => rfl
  | succ k => exact if_pos h
/-- Inside a sequence the carry is what the block before left. -/
theorem car_next (k : ℕ) (h : (k + 1) % 5 ≠ 0) : car c XA r5 r4 (k + 1)
    = (ca5 (xb c XA (Ring.bk 40 k) 0) (xb c XA (Ring.bk 40 k) 1) r5 r4 (car c XA r5 r4 k).1, cb5 (xb c XA (Ring.bk 40 k) 0) (xb c XA (Ring.bk 40 k) 1) r5 r4 (car c XA r5 r4 k).2) :=
  if_neg h

/-- What sub-block `q` of block `k` stores, for each half of the channels. -/
def tile0 (k : Fin 40) : ℕ → Vec F S1x1x128x640 .f32 :=
  pick (t00 (BitVec.ofNat 32 (k.val % 5)) (xb c XA k 0) (xb c XA k 1) r5 r4 wr0 (car c XA r5 r4 k.val).1 (car c XA r5 r4 k.val).2)
    (t10 (BitVec.ofNat 32 (k.val % 5)) (xb c XA k 0) (xb c XA k 1) r5 r4 wr0 (car c XA r5 r4 k.val).1 (car c XA r5 r4 k.val).2)
    (t20 (BitVec.ofNat 32 (k.val % 5)) (xb c XA k 0) (xb c XA k 1) r5 r4 wr0 (car c XA r5 r4 k.val).1 (car c XA r5 r4 k.val).2)
    (t30 (BitVec.ofNat 32 (k.val % 5)) (xb c XA k 0) (xb c XA k 1) r5 r4 wr0 (car c XA r5 r4 k.val).1 (car c XA r5 r4 k.val).2)
    (t40 (BitVec.ofNat 32 (k.val % 5)) (xb c XA k 0) (xb c XA k 1) r5 r4 wr0 (car c XA r5 r4 k.val).1 (car c XA r5 r4 k.val).2)
def tile1 (k : Fin 40) : ℕ → Vec F S1x1x128x640 .f32 :=
  pick (t01 (BitVec.ofNat 32 (k.val % 5)) (xb c XA k 0) (xb c XA k 1) r5 r4 wr1 (car c XA r5 r4 k.val).1 (car c XA r5 r4 k.val).2)
    (t11 (BitVec.ofNat 32 (k.val % 5)) (xb c XA k 0) (xb c XA k 1) r5 r4 wr1 (car c XA r5 r4 k.val).1 (car c XA r5 r4 k.val).2)
    (t21 (BitVec.ofNat 32 (k.val % 5)) (xb c XA k 0) (xb c XA k 1) r5 r4 wr1 (car c XA r5 r4 k.val).1 (car c XA r5 r4 k.val).2)
    (t31 (BitVec.ofNat 32 (k.val % 5)) (xb c XA k 0) (xb c XA k 1) r5 r4 wr1 (car c XA r5 r4 k.val).1 (car c XA r5 r4 k.val).2)
    (t41 (BitVec.ofNat 32 (k.val % 5)) (xb c XA k 0) (xb c XA k 1) r5 r4 wr1 (car c XA r5 r4 k.val).1 (car c XA r5 r4 k.val).2)
/-- Half `h` of block `k` of the result. -/
def yb (k : Fin 40) (h : Fin 2) (y : S128x3200.Idx) : Elt F .f32 :=
  (if h = 0 then tile0 c XA r5 r4 wr0 k else tile1 c XA r5 r4 wr1 k) ((y 1).val / 640)
    (ix4 (0 : Fin 1) (0 : Fin 1) (y 0) (⟨(y 1).val % 640, Nat.mod_lt _ (by decide)⟩ : Fin 640))
/-- The result array: each entry from the half block that covers it. -/
def GO : Buf (Elt F) (oM.view.loc (c : Thread nD τ)) := fun (i : S8x2x128x16000.Idx) =>
  yb c XA r5 r4 wr0 wr1 ⟨5 * (i 0).val + (i 3).val / 3200, by
      have h0 : (i 0).val < 8 := (i 0).isLt
      have h3 : (i 3).val < 16000 := (i 3).isLt
      omega⟩ (i 1) (ix2 (i 2) (⟨(i 3).val % 3200, Nat.mod_lt _ (by decide)⟩ : Fin 3200))

/-- The point's second grid coordinate, as a word. -/
theorem w1_eq : ∀ t : Fin grid0.N, w1 t = BitVec.ofNat 32 (t.val % 5) := by decide +kernel

/-- The first half of the output slot after the five stores. -/
theorem read_obuf0 (t : Fin grid0.N) (fy) :
    (oslot (Ring.sl 2 t.val) 0).view.read (Elt F) (obuf0 (w1 t) (xb c XA (Ring.bk 40 t.val) 0) (xb c XA (Ring.bk 40 t.val) 1) r5 r4 wr0 (car c XA r5 r4 t.val).1 (car c XA r5 r4 t.val).2 t c fy)
      = yb c XA r5 r4 wr0 wr1 (Ring.bk 40 t.val) 0 := by
  funext y
  refine (read_five c (Ring.sl 2 t.val) 0 fy _ _ _ _ _ _ _ _ _ _ (off23_eq t) (off25_eq t) (off27_eq t) (off29_eq t) (off31_eq t) _ _ _ _ _ y).trans ?_
  have hk : (Ring.bk 40 t.val).val = t.val := Ring.bk_val t.isLt
  unfold yb tile0
  rw [if_pos rfl, hk, w1_eq]
/-- The second half of the output slot after the five stores. -/
theorem read_obuf1 (t : Fin grid0.N) (fy) :
    (oslot (Ring.sl 2 t.val) 1).view.read (Elt F) (obuf1 (w1 t) (xb c XA (Ring.bk 40 t.val) 0) (xb c XA (Ring.bk 40 t.val) 1) r5 r4 wr1 (car c XA r5 r4 t.val).1 (car c XA r5 r4 t.val).2 t c fy)
      = yb c XA r5 r4 wr0 wr1 (Ring.bk 40 t.val) 1 := by
  funext y
  refine (read_five c (Ring.sl 2 t.val) 1 fy _ _ _ _ _ _ _ _ _ _ (off24_eq t) (off26_eq t) (off28_eq t) (off30_eq t) (off32_eq t) _ _ _ _ _ y).trans ?_
  have hk : (Ring.bk 40 t.val).val = t.val := Ring.bk_val t.isLt
  unfold yb tile1
  rw [if_neg (by decide), hk, w1_eq]

/-- The result array read at half `h` of block `k`. -/
theorem read_GO (k : Fin 40) (h : Fin 2) : (dst k h).view.read (Elt F) (GO c XA r5 r4 wr0 wr1) = yb c XA r5 r4 wr0 wr1 k h := by
  funext y
  refine (read_sq oM (blkOff k h) (blkOff_inb k h) (fun _ => rfl) squeezes_S1x1x128x3200_S128x3200 _ y).trans ?_
  show GO c XA r5 r4 wr0 wr1 ((Rect.unit (s := S8x2x128x16000) (blkOff k h) S1x1x128x3200.size (blkOff_inb k h)).emb (ix4 (0 : Fin 1) (0 : Fin 1) (y 0) (y 1))) = _
  have hy : (y 1).val < 3200 := (y 1).isLt
  have hz : (Rect.unit (s := S8x2x128x16000) (blkOff k h) S1x1x128x3200.size (blkOff_inb k h)).emb (ix4 (0 : Fin 1) (0 : Fin 1) (y 0) (y 1))
      = (ix4 (⟨k.val / 5, by omega⟩ : Fin 8) h (y 0) (⟨k.val % 5 * 3200 + (y 1).val, by omega⟩ : Fin 16000) : S8x2x128x16000.Idx) := by
    funext a
    refine Fin.ext ?_
    rw [Rect.emb_apply]
    fin_cases a <;> simp [blkOff]
  rw [hz]
  unfold GO
  have hk : (⟨5 * (k.val / 5) + (k.val % 5 * 3200 + (y 1).val) / 3200, by omega⟩ : Fin 40) = k := Fin.ext (by simp only; omega)
  have hj : (⟨(k.val % 5 * 3200 + (y 1).val) % 3200, Nat.mod_lt _ (by decide)⟩ : Fin 3200) = y 1 := Fin.ext (by show (k.val % 5 * 3200 + (y 1).val) % 3200 = (y 1).val; omega)
  show yb c XA r5 r4 wr0 wr1 (⟨5 * (k.val / 5) + (k.val % 5 * 3200 + (y 1).val) / 3200, _⟩ : Fin 40) h (ix2 (y 0) (⟨(k.val % 5 * 3200 + (y 1).val) % 3200, _⟩ : Fin 3200)) = _
  rw [hk, hj]
  refine congrArg _ ?_
  exact (eq_ix2 y).symm

/-- Half `h` of block `k` of the result after its copy landed: it holds the result array. -/
theorem sent_eq (s : Fin 2) (k : Fin 40) (h : Fin 2) (fy) (fd) (hr : (oslot s h).view.read (Elt F) fy = yb c XA r5 r4 wr0 wr1 k h) :
    dstP c k h (sent c s k h fy fd) = dstP c k h (GO c XA r5 r4 wr0 wr1) := by
  refine pointsTo_congr fun i hi => ?_
  obtain ⟨x, -, rfl⟩ := Finset.mem_map.mp hi
  have e1 : (dst k h).view.read (Elt F) (sent c s k h fy fd) x = yb c XA r5 r4 wr0 wr1 k h x := by
    have := View.read_writes_cons_emb (dst k h).view fd (Rect.whole S128x3200) (ReadAs.same.apply ((oslot s h).view.read (Elt F) fy)) [] x
    rw [Rect.emb_whole_apply] at this
    refine this.trans ?_
    rw [hr]
  have e2 := congrFun (read_GO c XA r5 r4 wr0 wr1 k h) x
  have e3 := e1.trans e2.symm
  exact (cast_inj (congrArg (Elt F) (dst k h).view.elt_eq)).mp e3
end Result

end Cert.KernelIdeal.Hand

end
-- ==== Proof.IStep.lean ====
module

public import proofs.«01_k».proof.Proof.IBlocks

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Out
variable (c : Dev nD) (XA : Buf (Elt F) (xM.view.loc (c : Thread nD τ)))
  (r5 : Vec F S8x128 .bf16) (r4 : Vec F S640x640 .bf16) (wr0 wr1 : Vec F S1x128x128 .f32)
  (FO : Buf (Elt F) (oM.view.loc (c : Thread nD τ)))

/-- Slot `s` of the output ring, free. -/
abbrev ofree (s : Fin 2) : sProp 𝕄 := iprop((∃ f, oslotP c s 0 f) ∗ (∃ f, oslotP c s 1 f) ∗ ocellP c s 0 ∗ ocellP c s 1)
/-- Slot `s` of the output ring on its way to block `k` of the result, with the block's values. -/
abbrev oF (s : Fin 2) (k : ℕ) : sProp 𝕄 :=
  iprop((∃ fy fd, ⌜(oslot s 0).view.read (Elt F) fy = yb c XA r5 r4 wr0 wr1 (Ring.bk 40 k) 0⌝ ∗ oflightP c s (Ring.bk 40 k) 0 fy fd)
    ∗ (∃ fy fd, ⌜(oslot s 1).view.read (Elt F) fy = yb c XA r5 r4 wr0 wr1 (Ring.bk 40 k) 1⌝ ∗ oflightP c s (Ring.bk 40 k) 1 fy fd))
/-- The slot point `p` stores into: free at the first two points, afterwards in flight from two points before. -/
def orole (p : ℕ) : sProp 𝕄 := if p < 2 then ofree c (Ring.sl 2 p) else oF c XA r5 r4 wr0 wr1 (Ring.sl 2 p) (p - 2)
/-- The first two points find their output slot free. -/
theorem orole_lt {p : ℕ} (h : p < 2) : orole c XA r5 r4 wr0 wr1 p = ofree c (Ring.sl 2 p) := if_pos h
/-- A later point finds its output slot in flight with the block of two points before. -/
theorem orole_ge {p : ℕ} (h : 2 ≤ p) : orole c XA r5 r4 wr0 wr1 p = oF c XA r5 r4 wr0 wr1 (Ring.sl 2 p) (p - 2) := if_neg (by omega)
/-- The slot's role two points on. -/
theorem orole_next (p : ℕ) : orole c XA r5 r4 wr0 wr1 (p + 2) = oF c XA r5 r4 wr0 wr1 (Ring.sl 2 p) p := by
  rw [orole_ge c XA r5 r4 wr0 wr1 (by omega), Ring.sl_add]; rfl
/-- Block `k` of the result at contents `f`. -/
abbrev dblk (f : Buf (Elt F) (oM.view.loc (c : Thread nD τ))) (k : Fin 40) : sProp 𝕄 := iprop(dstP c k 0 f ∗ dstP c k 1 f)
abbrev GOb : Buf (Elt F) (oM.view.loc (c : Thread nD τ)) := GO c XA r5 r4 wr0 wr1
/-- The result array before point `p`: the blocks not yet reached, and those whose copies have been waited for. -/
abbrev blocks (p : ℕ) : sProp 𝕄 :=
  iprop(bigSep (Ring.rangeSet 40 p 40) (dblk c FO) ∗ bigSep (Ring.rangeSet 40 0 (p - 2)) (dblk c (GOb c XA r5 r4 wr0 wr1)))
/-- The output ring and the result before point `p`. -/
def Φout (p : ℕ) : sProp 𝕄 :=
  if p < 40 then iprop((orole c XA r5 r4 wr0 wr1 p ∗ orole c XA r5 r4 wr0 wr1 (p + 1)) ∗ blocks c XA r5 r4 wr0 wr1 FO p)
  else iprop((ofree c 0 ∗ ofree c 1) ∗ bigSep Finset.univ (dblk c (GOb c XA r5 r4 wr0 wr1)))
/-- Before a point, the two output slots by their roles and the blocks of the result. -/
theorem Φout_lt {p : ℕ} (h : p < 40) : Φout c XA r5 r4 wr0 wr1 FO p = iprop((orole c XA r5 r4 wr0 wr1 p ∗ orole c XA r5 r4 wr0 wr1 (p + 1)) ∗ blocks c XA r5 r4 wr0 wr1 FO p) := if_pos h
/-- At the end both slots are free and every block holds its result. -/
theorem Φout_ge {p : ℕ} (h : ¬ p < 40) : Φout c XA r5 r4 wr0 wr1 FO p = iprop((ofree c 0 ∗ ofree c 1) ∗ bigSep Finset.univ (dblk c (GOb c XA r5 r4 wr0 wr1))) := if_neg h

/-- A block named by its number. -/
theorem bk_mk {k : ℕ} (h : k < 40) : (⟨k, h⟩ : Fin 40) = Ring.bk 40 k := Fin.ext (Ring.bk_val h).symm
/-- The blocks not yet reached: the point's own and the rest. -/
theorem ahead_here (f : Buf (Elt F) (oM.view.loc (c : Thread nD τ))) {p : ℕ} (h : p < 40) : bigSep (Ring.rangeSet 40 p 40) (dblk c f) = iprop(dblk c f (Ring.bk 40 p) ∗ bigSep (Ring.rangeSet 40 (p + 1) 40) (dblk c f)) := by
  rw [← bk_mk h]; exact Ring.bigSep_rangeSet_head h h
/-- The blocks waited for, with one more. -/
theorem behind_next (f : Buf (Elt F) (oM.view.loc (c : Thread nD τ))) {p : ℕ} (h : p < 40) : bigSep (Ring.rangeSet 40 0 (p + 1)) (dblk c f) = iprop(dblk c f (Ring.bk 40 p) ∗ bigSep (Ring.rangeSet 40 0 p) (dblk c f)) := by
  rw [← bk_mk h]; exact Ring.bigSep_rangeSet_last (lo := 0) (hi := p + 1) (Nat.succ_pos p) (by omega)

/-- The carry before point `p`: within a sequence its two words are the sums so far. -/
abbrev carryI (p : ℕ) : sProp 𝕄 :=
  iprop(∃ f, ⌜p % 5 ≠ 0 → word0 c f = (car c XA r5 r4 p).1 ∧ word1 c f = (car c XA r5 r4 p).2⌝ ∗ carryP c f)

/-- The carry that the arithmetic of a point starts from is the carried pair. -/
theorem carry_start (p : ℕ) (cf : Buf (Elt F) (carryM.view.loc (c : Thread nD τ))) (hcf : p % 5 ≠ 0 → word0 c cf = (car c XA r5 r4 p).1 ∧ word1 c cf = (car c XA r5 r4 p).2) :
    ∀ fc, (p % 5 = 0 → ∃ g, fc = carryOf c g zf zf) → (p % 5 ≠ 0 → fc = cf) → word0 c fc = (car c XA r5 r4 p).1 ∧ word1 c fc = (car c XA r5 r4 p).2 := by
  intro fc h0 h1
  by_cases h : p % 5 = 0
  · obtain ⟨g, rfl⟩ := h0 h
    rw [word0_carryOf, word1_carryOf, car_first c XA r5 r4 p h]
    exact ⟨rfl, rfl⟩
  · rw [h1 h]; exact hcf h
/-- The carry that a point leaves is the next carried pair. -/
theorem carry_end (p : ℕ) (fc : Buf (Elt F) (carryM.view.loc (c : Thread nD τ))) :
    (p + 1) % 5 ≠ 0 → word0 c (carryOf c fc (ca5 (xb c XA (Ring.bk 40 p) 0) (xb c XA (Ring.bk 40 p) 1) r5 r4 (car c XA r5 r4 p).1) (cb5 (xb c XA (Ring.bk 40 p) 0) (xb c XA (Ring.bk 40 p) 1) r5 r4 (car c XA r5 r4 p).2)) = (car c XA r5 r4 (p + 1)).1
      ∧ word1 c (carryOf c fc (ca5 (xb c XA (Ring.bk 40 p) 0) (xb c XA (Ring.bk 40 p) 1) r5 r4 (car c XA r5 r4 p).1) (cb5 (xb c XA (Ring.bk 40 p) 0) (xb c XA (Ring.bk 40 p) 1) r5 r4 (car c XA r5 r4 p).2)) = (car c XA r5 r4 (p + 1)).2 := by
  intro h
  rw [word0_carryOf, word1_carryOf, car_next c XA r5 r4 p h]
  exact ⟨rfl, rfl⟩
end Out

section Run
variable (c : Dev nD) (XA : Buf (Elt F) (xM.view.loc (c : Thread nD τ)))
  (arg3 : Memref sig .tc .vmem S2x128x128 .f32) (harg3 : arg3.IsWhole)
  (arg4 : Memref sig .tc .vmem S640x640 .bf16) (harg4 : arg4.IsWhole)
  (arg5 : Memref sig .tc .vmem S8x128 .bf16) (harg5 : arg5.IsWhole)
  (t : Fin grid0.N)
  (r5 : Vec F S8x128 .bf16) (r4 : Vec F S640x640 .bf16) (wr0 wr1 : Vec F S1x128x128 .f32)
  (FO : Buf (Elt F) (oM.view.loc (c : Thread nD τ)))

abbrev kernelG := cc0__cln_kernel (F := F) (grid0.coords t) xM (Memref.isWhole_whole _) arg3 harg3 arg4 harg4 arg5 harg5 oM (Memref.isWhole_whole _)
  carryM (Memref.isWhole_whole _) inM (Memref.isWhole_whole _) outM (Memref.isWhole_whole _) cc0_scratch3 cc0_scratch4

/-- What the body keeps from point to point: the input ring, the carry, the output ring. -/
abbrev Inv (p : ℕ) : sProp 𝕄 :=
  iprop(Φin c XA p ∗ carryI c XA r5 r4 p ∗ Φout c XA r5 r4 wr0 wr1 FO p)
/-- The three staged operands. -/
abbrev Args (g3 : Buf (Elt F) (arg3.view.loc (c : Thread nD τ))) (g4 : Buf (Elt F) (arg4.view.loc (c : Thread nD τ))) (g5 : Buf (Elt F) (arg5.view.loc (c : Thread nD τ))) : sProp 𝕄 :=
  iprop((arg3.view.loc (c : Thread nD τ) ↦[arg3.view.set]{fullShare} g3) ∗ (arg4.view.loc (c : Thread nD τ) ↦[arg4.view.set]{fullShare} g4)
        ∗ (arg5.view.loc (c : Thread nD τ) ↦[arg5.view.set]{fullShare} g5))

/-- The body at one of the first two points. -/
theorem early_run (h2 : ¬ 2 ≤ t.val) (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (W) (Q : _ → sProp 𝕄) :
    iprop(Inv c XA r5 r4 wr0 wr1 FO t.val ∗ owes (c : Thread nD τ) 0 W ∗ Args c arg3 arg4 arg5 g3 g4 g5
        ∗ ((Inv c XA r5 r4 wr0 wr1 FO (t.val + 1) ∗ (∃ W, owes (c : Thread nD τ) 0 W) ∗ Args c arg3 arg4 arg5 g3 g4 g5) -∗ Q ⟨⟩))
      ⊢ wp frame (wpE (defs₀ (F := F)) 𝒱₀ (c : Thread nD τ) none) Set.univ (kernelG arg3 harg3 arg4 harg4 arg5 harg5 t) Q := by
  have h40 : t.val < 40 := t.isLt
  have k0_h5 : ¬ k0_cond5 (grid0.coords t) = 1#1 := by rw [cond5_iff]; omega
  unfold Inv
  rw [Φout_lt c XA r5 r4 wr0 wr1 FO h40, Φout_lt c XA r5 r4 wr0 wr1 FO (by omega : t.val + 1 < 40), show t.val + 1 + 1 = t.val + 2 from rfl, orole_next c XA r5 r4 wr0 wr1 t.val]
  unfold blocks
  rw [ahead_here c FO h40, orole_lt c XA r5 r4 wr0 wr1 (by omega : t.val < 2)]
  rw [show t.val + 1 - 2 = 0 by omega, show t.val - 2 = 0 by omega]
  dsimp only [kernelG]
  sl_rw [cc0__cln_kernel_eq_skeleton]
  sl_unfold [cc0__cln_kernel_skel]
  rw [wp_bind]
  iintro ⟨⟨HI, ⟨%cf, %hcf, HC⟩, ⟨⟨⟨%fy0, HS0⟩, ⟨%fy1, HS1⟩, HE0, HE1⟩, HN⟩, ⟨⟨HD0, HD1⟩, HA⟩, HB⟩, HW, ⟨H3, H4, H5⟩, Hk⟩
  iapply (comp_early_run c XA arg3 harg3 arg4 harg4 arg5 harg5 t h2 cf W _ _ (ld0_eq c XA t).symm (ld1_eq c XA t).symm r5 r4 wr0 wr1 _ _
    (carry_start c XA r5 r4 t.val cf hcf) g3 g4 g5 hr5 hr4 hw0 hw1 fy0 fy1 FO FO)
  isplitl [HI]; · iexact HI
  isplitl [HC]; · iexact HC
  isplitl [HW]; · iexact HW
  isplitl [H3]; · iexact H3
  isplitl [H4]; · iexact H4
  isplitl [H5]; · iexact H5
  isplitl [HS0 HS1 HE0 HE1]
  · isplitl [HS0]; · iexact HS0
    isplitl [HS1]; · iexact HS1
    isplitl [HE0]; · iexact HE0
    iexact HE1
  isplitl [HD0]; · iexact HD0
  isplitl [HD1]; · iexact HD1
  unfold PostC
  iintro ⟨HM, ⟨%fc, HC⟩, ⟨%W2, HW⟩, H3, H4, H5, HG0, HG1⟩
  sl_exec
  sl_step
  iapply Hk
  ihave HI := (Mid_next c XA t.val) $$ HM
  isplitr [HW H3 H4 H5]
  · isplitl [HI]; · iexact HI
    isplitl [HC]
    · iexists _
      isplitr; · ipureintro; exact carry_end c XA r5 r4 t.val fc
      iexact HC
    isplitl [HN HG0 HG1]
    · isplitl [HN]; · iexact HN
      isplitl [HG0]
      · iexists _; iexists _
        isplitr; · ipureintro; exact read_obuf0 c XA r5 r4 wr0 wr1 t fy0
        iexact HG0
      · iexists _; iexists _
        isplitr; · ipureintro; exact read_obuf1 c XA r5 r4 wr0 wr1 t fy1
        iexact HG1
    isplitl [HA]; · iexact HA
    iexact HB
  isplitl [HW]; · iexists _; iexact HW
  isplitl [H3]; · iexact H3
  isplitl [H4]; · iexact H4
  iexact H5

/-- The body at a later point that is not the last. -/
theorem late_run (h2 : 2 ≤ t.val) (h5 : t.val < 39) (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (W) (Q : _ → sProp 𝕄) :
    iprop(Inv c XA r5 r4 wr0 wr1 FO t.val ∗ owes (c : Thread nD τ) 0 W ∗ Args c arg3 arg4 arg5 g3 g4 g5
        ∗ ((Inv c XA r5 r4 wr0 wr1 FO (t.val + 1) ∗ (∃ W, owes (c : Thread nD τ) 0 W) ∗ Args c arg3 arg4 arg5 g3 g4 g5) -∗ Q ⟨⟩))
      ⊢ wp frame (wpE (defs₀ (F := F)) 𝒱₀ (c : Thread nD τ) none) Set.univ (kernelG arg3 harg3 arg4 harg4 arg5 harg5 t) Q := by
  have h40 : t.val < 40 := t.isLt
  have k0_h5 : ¬ k0_cond5 (grid0.coords t) = 1#1 := by rw [cond5_iff]; omega
  unfold Inv
  rw [Φout_lt c XA r5 r4 wr0 wr1 FO h40, Φout_lt c XA r5 r4 wr0 wr1 FO (by omega : t.val + 1 < 40), show t.val + 1 + 1 = t.val + 2 from rfl, orole_next c XA r5 r4 wr0 wr1 t.val]
  unfold blocks
  rw [ahead_here c FO h40, orole_ge c XA r5 r4 wr0 wr1 h2]
  rw [show t.val + 1 - 2 = t.val - 2 + 1 by omega, behind_next c (GOb c XA r5 r4 wr0 wr1) (by omega : t.val - 2 < 40)]
  dsimp only [kernelG]
  sl_rw [cc0__cln_kernel_eq_skeleton]
  sl_unfold [cc0__cln_kernel_skel]
  rw [wp_bind]
  iintro ⟨⟨HI, ⟨%cf, %hcf, HC⟩, ⟨⟨⟨%fy0, %fd0, %e0, HF0⟩, ⟨%fy1, %fd1, %e1, HF1⟩⟩, HN⟩, ⟨⟨HD0, HD1⟩, HA⟩, HB⟩, HW, ⟨H3, H4, H5⟩, Hk⟩
  iapply (comp_late_run c XA arg3 harg3 arg4 harg4 arg5 harg5 t h2 cf W _ _ (ld0_eq c XA t).symm (ld1_eq c XA t).symm r5 r4 wr0 wr1 _ _
    (carry_start c XA r5 r4 t.val cf hcf) g3 g4 g5 hr5 hr4 hw0 hw1 fy0 fy1 fd0 fd1 FO FO)
  isplitl [HI]; · iexact HI
  isplitl [HC]; · iexact HC
  isplitl [HW]; · iexact HW
  isplitl [H3]; · iexact H3
  isplitl [H4]; · iexact H4
  isplitl [H5]; · iexact H5
  isplitl [HF0 HF1]
  · isplitl [HF0]; · iexact HF0
    iexact HF1
  isplitl [HD0]; · iexact HD0
  isplitl [HD1]; · iexact HD1
  unfold PostC
  iintro ⟨HL0, HL1, HM, ⟨%fc, HC⟩, ⟨%W2, HW⟩, H3, H4, H5, HG0, HG1⟩
  ihave HL0 := (Entails.of_eq (sent_eq c XA r5 r4 wr0 wr1 (Ring.sl 2 t.val) (Ring.bk 40 (t.val - 2)) 0 fy0 fd0 e0)) $$ HL0
  ihave HL1 := (Entails.of_eq (sent_eq c XA r5 r4 wr0 wr1 (Ring.sl 2 t.val) (Ring.bk 40 (t.val - 2)) 1 fy1 fd1 e1)) $$ HL1
  sl_exec
  sl_step
  iapply Hk
  ihave HI := (Mid_next c XA t.val) $$ HM
  isplitr [HW H3 H4 H5]
  · isplitl [HI]; · iexact HI
    isplitl [HC]
    · iexists _
      isplitr; · ipureintro; exact carry_end c XA r5 r4 t.val fc
      iexact HC
    isplitl [HN HG0 HG1]
    · isplitl [HN]; · iexact HN
      isplitl [HG0]
      · iexists _; iexists _
        isplitr; · ipureintro; exact read_obuf0 c XA r5 r4 wr0 wr1 t fy0
        iexact HG0
      · iexists _; iexists _
        isplitr; · ipureintro; exact read_obuf1 c XA r5 r4 wr0 wr1 t fy1
        iexact HG1
    isplitl [HA]; · iexact HA
    isplitl [HL0 HL1]
    · isplitl [HL0]; · iexact HL0
      iexact HL1
    iexact HB
  isplitl [HW]; · iexists _; iexact HW
  isplitl [H3]; · iexact H3
  isplitl [H4]; · iexact H4
  iexact H5

/-- The body at the last point, which also waits for the last two blocks. -/
theorem last_run (h2 : 2 ≤ t.val) (h5 : t.val = 39) (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (W) (Q : _ → sProp 𝕄) :
    iprop(Inv c XA r5 r4 wr0 wr1 FO t.val ∗ owes (c : Thread nD τ) 0 W ∗ Args c arg3 arg4 arg5 g3 g4 g5
        ∗ ((Inv c XA r5 r4 wr0 wr1 FO (t.val + 1) ∗ (∃ W, owes (c : Thread nD τ) 0 W) ∗ Args c arg3 arg4 arg5 g3 g4 g5) -∗ Q ⟨⟩))
      ⊢ wp frame (wpE (defs₀ (F := F)) 𝒱₀ (c : Thread nD τ) none) Set.univ (kernelG arg3 harg3 arg4 harg4 arg5 harg5 t) Q := by
  have h40 : t.val < 40 := t.isLt
  have k0_h5 : k0_cond5 (grid0.coords t) = 1#1 := by rw [cond5_iff]; omega
  unfold Inv
  rw [Φout_lt c XA r5 r4 wr0 wr1 FO h40, Φout_ge c XA r5 r4 wr0 wr1 FO (by omega)]
  unfold blocks
  rw [ahead_here c FO h40, orole_ge c XA r5 r4 wr0 wr1 h2]
  rw [orole_ge c XA r5 r4 wr0 wr1 (by omega : 2 ≤ t.val + 1), show t.val + 1 - 2 = t.val - 1 by omega]
  have eS : iprop(ofree (F := F) c 0 ∗ ofree c 1) = iprop(ofree c (Ring.sl 2 (t.val + 1)) ∗ ofree c (Ring.sl 2 t.val)) := by
    rw [show t.val = 39 by omega]; rfl
  have eB : bigSep Finset.univ (dblk c (GOb c XA r5 r4 wr0 wr1))
      = iprop(dblk c (GOb c XA r5 r4 wr0 wr1) (Ring.bk 40 t.val) ∗ dblk c (GOb c XA r5 r4 wr0 wr1) (Ring.bk 40 (t.val - 1)) ∗ dblk c (GOb c XA r5 r4 wr0 wr1) (Ring.bk 40 (t.val - 2))
          ∗ bigSep (Ring.rangeSet 40 0 (t.val - 2)) (dblk c (GOb c XA r5 r4 wr0 wr1))) := by
    rw [← behind_next c (GOb c XA r5 r4 wr0 wr1) (show t.val - 2 < 40 by omega), show t.val - 2 + 1 = t.val - 1 by omega,
      ← behind_next c (GOb c XA r5 r4 wr0 wr1) (show t.val - 1 < 40 by omega), show t.val - 1 + 1 = t.val by omega,
      ← behind_next c (GOb c XA r5 r4 wr0 wr1) h40, show t.val + 1 = 40 by omega, Ring.rangeSet_univ]
  rw [eS, eB]
  dsimp only [kernelG]
  sl_rw [cc0__cln_kernel_eq_skeleton]
  sl_unfold [cc0__cln_kernel_skel]
  rw [wp_bind]
  iintro ⟨⟨HI, ⟨%cf, %hcf, HC⟩, ⟨⟨⟨%fy0, %fd0, %e0, HF0⟩, ⟨%fy1, %fd1, %e1, HF1⟩⟩, ⟨⟨%gy0, %gd0, %d0, HP0⟩, ⟨%gy1, %gd1, %d1, HP1⟩⟩⟩, ⟨⟨HD0, HD1⟩, HA⟩, HB⟩, HW, ⟨H3, H4, H5⟩, Hk⟩
  iapply (comp_late_run c XA arg3 harg3 arg4 harg4 arg5 harg5 t h2 cf W _ _ (ld0_eq c XA t).symm (ld1_eq c XA t).symm r5 r4 wr0 wr1 _ _
    (carry_start c XA r5 r4 t.val cf hcf) g3 g4 g5 hr5 hr4 hw0 hw1 fy0 fy1 fd0 fd1 FO FO)
  isplitl [HI]; · iexact HI
  isplitl [HC]; · iexact HC
  isplitl [HW]; · iexact HW
  isplitl [H3]; · iexact H3
  isplitl [H4]; · iexact H4
  isplitl [H5]; · iexact H5
  isplitl [HF0 HF1]
  · isplitl [HF0]; · iexact HF0
    iexact HF1
  isplitl [HD0]; · iexact HD0
  isplitl [HD1]; · iexact HD1
  unfold PostC
  iintro ⟨HL0, HL1, HM, ⟨%fc, HC⟩, ⟨%W2, HW⟩, H3, H4, H5, HG0, HG1⟩
  ihave HL0 := (Entails.of_eq (sent_eq c XA r5 r4 wr0 wr1 (Ring.sl 2 t.val) (Ring.bk 40 (t.val - 2)) 0 fy0 fd0 e0)) $$ HL0
  ihave HL1 := (Entails.of_eq (sent_eq c XA r5 r4 wr0 wr1 (Ring.sl 2 t.val) (Ring.bk 40 (t.val - 2)) 1 fy1 fd1 e1)) $$ HL1
  sl_rw [k0_part3_eq_skeleton]
  sl_unfold [k0_part3_skel]
  sl_exec
  sl_step
  iapply Hk
  ihave HI := (Mid_next c XA t.val) $$ HM
  isplitr [HW H3 H4 H5]
  · isplitl [HI]; · iexact HI
    isplitl [HC]
    · iexists _
      isplitr; · ipureintro; exact carry_end c XA r5 r4 t.val fc
      iexact HC
    ihave HG0_dst := (Entails.of_eq (sent_eq c XA r5 r4 wr0 wr1 (Ring.sl 2 t.val) (Ring.bk 40 t.val) 0 _ FO (read_obuf0 c XA r5 r4 wr0 wr1 t fy0))) $$ HG0_dst
    ihave HG1_dst := (Entails.of_eq (sent_eq c XA r5 r4 wr0 wr1 (Ring.sl 2 t.val) (Ring.bk 40 t.val) 1 _ FO (read_obuf1 c XA r5 r4 wr0 wr1 t fy1))) $$ HG1_dst
    ihave HP0_dst := (Entails.of_eq (sent_eq c XA r5 r4 wr0 wr1 (Ring.sl 2 (t.val + 1)) (Ring.bk 40 (t.val - 1)) 0 gy0 gd0 d0)) $$ HP0_dst
    ihave HP1_dst := (Entails.of_eq (sent_eq c XA r5 r4 wr0 wr1 (Ring.sl 2 (t.val + 1)) (Ring.bk 40 (t.val - 1)) 1 gy1 gd1 d1)) $$ HP1_dst
    isplitl [HG0_src HG0 HP0_src HP0 HG1_src HG1 HP1_src HP1]
    · isplitl [HP0_src HP0 HP1_src HP1]
      · isplitl [HP0_src]; · iexists _; iexact HP0_src
        isplitl [HP1_src]; · iexists _; iexact HP1_src
        isplitl [HP0]; · iexact HP0
        iexact HP1
      · isplitl [HG0_src]; · iexists _; iexact HG0_src
        isplitl [HG1_src]; · iexists _; iexact HG1_src
        isplitl [HG0]; · iexact HG0
        iexact HG1
    isplitl [HG0_dst HG1_dst]
    · isplitl [HG0_dst]; · iexact HG0_dst
      iexact HG1_dst
    isplitl [HP0_dst HP1_dst]
    · isplitl [HP0_dst]; · iexact HP0_dst
      iexact HP1_dst
    isplitl [HL0 HL1]
    · isplitl [HL0]; · iexact HL0
      iexact HL1
    iexact HB
  isplitl [HW]; · iexists _; iexact HW
  isplitl [H3]; · iexact H3
  isplitl [H4]; · iexact H4
  iexact H5

/-- The body at any point: what it keeps goes from this point to the next. -/
theorem body_run (g3 g4 g5) (hr5 : r5 = arg5.view.readAt (Elt F) (Rect.unit (s := S8x128) ![0, 0] S8x128.size inb_S8x128_S8x128_0_0).toLoadRect g5)
    (hr4 : r4 = arg4.view.readAt (Elt F) (Rect.unit (s := S640x640) ![0, 0] S640x640.size inb_S640x640_S640x640_0_0).toLoadRect g4)
    (hw0 : wr0 = arg3.view.readAt (Elt F) (Rect.unit (s := S2x128x128) ![0, 0, 0] S1x128x128.size inb_S2x128x128_S1x128x128_0_0_0).toLoadRect g3)
    (hw1 : wr1 = arg3.view.readAt (Elt F) (Rect.unit (s := S2x128x128) ![1, 0, 0] S1x128x128.size inb_S2x128x128_S1x128x128_1_0_0).toLoadRect g3)
    (W) (Q : _ → sProp 𝕄) :
    iprop(Inv c XA r5 r4 wr0 wr1 FO t.val ∗ owes (c : Thread nD τ) 0 W ∗ Args c arg3 arg4 arg5 g3 g4 g5
        ∗ ((Inv c XA r5 r4 wr0 wr1 FO (t.val + 1) ∗ (∃ W, owes (c : Thread nD τ) 0 W) ∗ Args c arg3 arg4 arg5 g3 g4 g5) -∗ Q ⟨⟩))
      ⊢ wp frame (wpE (defs₀ (F := F)) 𝒱₀ (c : Thread nD τ) none) Set.univ (kernelG arg3 harg3 arg4 harg4 arg5 harg5 t) Q := by
  have h40 : t.val < 40 := t.isLt
  by_cases h2 : 2 ≤ t.val
  · by_cases h5 : t.val < 39
    · exact late_run c XA arg3 harg3 arg4 harg4 arg5 harg5 t r5 r4 wr0 wr1 FO h2 h5 g3 g4 g5 hr5 hr4 hw0 hw1 W Q
    · exact last_run c XA arg3 harg3 arg4 harg4 arg5 harg5 t r5 r4 wr0 wr1 FO h2 (by omega) g3 g4 g5 hr5 hr4 hw0 hw1 W Q
  · exact early_run c XA arg3 harg3 arg4 harg4 arg5 harg5 t r5 r4 wr0 wr1 FO h2 g3 g4 g5 hr5 hr4 hw0 hw1 W Q
end Run

end Cert.KernelIdeal.Hand

end
-- ==== Proof.ISplit.lean ====
module

public import proofs.«01_k».proof.Proof.IStep

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The buffers split into the pieces the copies move, and put together again. -/

/-- The places of a half block of the input. -/
theorem mem_src (k : Fin 40) (h : Fin 2) (i : S8x2x128x16000.Idx) :
    i ∈ (src k h).view.set ↔ ((i 0).val = k.val / 5 ∧ (i 1).val = h.val ∧ k.val % 5 * 3200 ≤ (i 3).val ∧ (i 3).val < k.val % 5 * 3200 + 3200) := by
  show i ∈ (((View.whole main_v0).slice (Rect.unit (s := S8x2x128x16000) (blkOff k h) S1x1x128x3200.size (blkOff_inb k h))).reshape S128x3200 squeezes_S1x1x128x3200_S128x3200.numel_eq).set ↔ _
  rw [View.set_reshape, View.set_slice_whole, Rect.mem_set_unit]
  constructor
  · intro H
    have h0 : k.val / 5 ≤ (i 0).val ∧ (i 0).val < k.val / 5 + 1 := H 0
    have h1 : h.val ≤ (i 1).val ∧ (i 1).val < h.val + 1 := H 1
    have h3 : k.val % 5 * 3200 ≤ (i 3).val ∧ (i 3).val < k.val % 5 * 3200 + 3200 := H 3
    exact ⟨by omega, by omega, h3⟩
  · rintro ⟨h0, h1, h3, h4⟩ a
    have h2 : (i 2).val < 128 := (i 2).isLt
    fin_cases a
    · show k.val / 5 ≤ (i 0).val ∧ (i 0).val < k.val / 5 + 1; omega
    · show h.val ≤ (i 1).val ∧ (i 1).val < h.val + 1; omega
    · show 0 ≤ (i 2).val ∧ (i 2).val < 0 + 128; omega
    · show k.val % 5 * 3200 ≤ (i 3).val ∧ (i 3).val < k.val % 5 * 3200 + 3200; omega
/-- The places of a half block of the result are those of the input's. -/
theorem set_dst (k : Fin 40) (h : Fin 2) : ((dst k h).view.set : Finset S8x2x128x16000.Idx) = (src k h).view.set := by
  show (((View.whole main_v6).slice (Rect.unit (s := S8x2x128x16000) (blkOff k h) S1x1x128x3200.size (blkOff_inb k h))).reshape S128x3200 squeezes_S1x1x128x3200_S128x3200.numel_eq).set = (((View.whole main_v0).slice (Rect.unit (s := S8x2x128x16000) (blkOff k h) S1x1x128x3200.size (blkOff_inb k h))).reshape S128x3200 squeezes_S1x1x128x3200_S128x3200.numel_eq).set
  rw [View.set_reshape, View.set_slice_whole, View.set_reshape, View.set_slice_whole]
/-- The places of a half slot of the input ring. -/
theorem mem_islot (s : Fin 5) (h : Fin 2) (i : S5x2x128x3200.Idx) :
    i ∈ (islot s h).view.set ↔ ((i 0).val = s.val ∧ (i 1).val = h.val) := by
  show i ∈ (((View.whole cc0_scratch1).slice (Rect.unit (s := S5x2x128x3200) (slotOff s h) S1x1x128x3200.size (slot5_inb s h))).reshape S128x3200 squeezes_S1x1x128x3200_S128x3200.numel_eq).set ↔ _
  rw [View.set_reshape, View.set_slice_whole, Rect.mem_set_unit]
  constructor
  · intro H
    have h0 : s.val ≤ (i 0).val ∧ (i 0).val < s.val + 1 := H 0
    have h1 : h.val ≤ (i 1).val ∧ (i 1).val < h.val + 1 := H 1
    exact ⟨by omega, by omega⟩
  · rintro ⟨h0, h1⟩ a
    have h2 : (i 2).val < 128 := (i 2).isLt
    have h3 : (i 3).val < 3200 := (i 3).isLt
    fin_cases a
    · show s.val ≤ (i 0).val ∧ (i 0).val < s.val + 1; omega
    · show h.val ≤ (i 1).val ∧ (i 1).val < h.val + 1; omega
    · show 0 ≤ (i 2).val ∧ (i 2).val < 0 + 128; omega
    · show 0 ≤ (i 3).val ∧ (i 3).val < 0 + 3200; omega
/-- The places of a half slot of the output ring. -/
theorem mem_oslot (s : Fin 2) (h : Fin 2) (i : S2x2x128x3200.Idx) :
    i ∈ (oslot s h).view.set ↔ ((i 0).val = s.val ∧ (i 1).val = h.val) := by
  show i ∈ (((View.whole cc0_scratch2).slice (Rect.unit (s := S2x2x128x3200) (slotOff s h) S1x1x128x3200.size (slot2_inb s h))).reshape S128x3200 squeezes_S1x1x128x3200_S128x3200.numel_eq).set ↔ _
  rw [View.set_reshape, View.set_slice_whole, Rect.mem_set_unit]
  constructor
  · intro H
    have h0 : s.val ≤ (i 0).val ∧ (i 0).val < s.val + 1 := H 0
    have h1 : h.val ≤ (i 1).val ∧ (i 1).val < h.val + 1 := H 1
    exact ⟨by omega, by omega⟩
  · rintro ⟨h0, h1⟩ a
    have h2 : (i 2).val < 128 := (i 2).isLt
    have h3 : (i 3).val < 3200 := (i 3).isLt
    fin_cases a
    · show s.val ≤ (i 0).val ∧ (i 0).val < s.val + 1; omega
    · show h.val ≤ (i 1).val ∧ (i 1).val < h.val + 1; omega
    · show 0 ≤ (i 2).val ∧ (i 2).val < 0 + 128; omega
    · show 0 ≤ (i 3).val ∧ (i 3).val < 0 + 3200; omega

/-- Half `h` of block `k`. -/
def srcSet (k : Fin 40) (h : Fin 2) : Finset S8x2x128x16000.Idx := (src k h).view.set
/-- The entries of a half block. -/
theorem mem_srcSet (k : Fin 40) (h : Fin 2) (i : S8x2x128x16000.Idx) :
    i ∈ srcSet k h ↔ ((i 0).val = k.val / 5 ∧ (i 1).val = h.val ∧ k.val % 5 * 3200 ≤ (i 3).val ∧ (i 3).val < k.val % 5 * 3200 + 3200) := mem_src k h i
/-- Block `k`, both halves. -/
def blkSet (k : Fin 40) : Finset S8x2x128x16000.Idx := srcSet k 0 ∪ srcSet k 1
/-- The two halves of a block share no entry. -/
theorem halves_disjoint (k : Fin 40) : Disjoint (srcSet k 0) (srcSet k 1) := by
  rw [Finset.disjoint_left]
  intro i h0 h1
  have e0 := ((mem_srcSet k 0 i).mp h0).2.1
  have e1 := ((mem_srcSet k 1 i).mp h1).2.1
  rw [e0] at e1
  exact absurd e1 (by decide)
/-- Where the entries of a block lie. -/
theorem blkSet_bounds {k : Fin 40} {i : S8x2x128x16000.Idx} (hi : i ∈ blkSet k) : (i 0).val = k.val / 5 ∧ k.val % 5 * 3200 ≤ (i 3).val ∧ (i 3).val < k.val % 5 * 3200 + 3200 := by
  rcases Finset.mem_union.mp hi with h | h
  · have := (mem_srcSet k 0 i).mp h; exact ⟨this.1, this.2.2⟩
  · have := (mem_srcSet k 1 i).mp h; exact ⟨this.1, this.2.2⟩
/-- Two blocks share no entry. -/
theorem blkSet_disjoint (k k' : Fin 40) (hk : k ≠ k') : Disjoint (blkSet k) (blkSet k') := by
  rw [Finset.disjoint_left]
  intro i h h'
  have e := blkSet_bounds h
  have e' := blkSet_bounds h'
  exact hk (Fin.ext (by omega))
/-- The blocks together are the whole array. -/
theorem blkSet_cover : Finset.univ.biUnion blkSet = Finset.univ := by
  ext i
  simp only [Finset.mem_biUnion, Finset.mem_univ, true_and, iff_true]
  have h0 : (i 0).val < 8 := (i 0).isLt
  have h1 : (i 1).val < 2 := (i 1).isLt
  have h3 : (i 3).val < 16000 := (i 3).isLt
  obtain ⟨k, hk⟩ : ∃ k : Fin 40, k.val = 5 * (i 0).val + (i 3).val / 3200 := ⟨⟨5 * (i 0).val + (i 3).val / 3200, by omega⟩, rfl⟩
  have e0 : (i 0).val = k.val / 5 := by omega
  have e3 : k.val % 5 * 3200 ≤ (i 3).val ∧ (i 3).val < k.val % 5 * 3200 + 3200 := by omega
  refine ⟨k, Finset.mem_union.mpr ?_⟩
  rcases Nat.lt_or_ge (i 1).val 1 with h | h
  · exact Or.inl ((mem_srcSet k 0 i).mpr ⟨e0, Nat.lt_one_iff.mp h, e3⟩)
  · exact Or.inr ((mem_srcSet k 1 i).mpr ⟨e0, Nat.le_antisymm (Nat.le_of_lt_succ h1) h, e3⟩)

/-- The input held whole is its forty blocks. -/
theorem input_blocks (c : Dev nD) (XA : Buf (Elt F) (xM.view.loc (c : Thread nD τ))) :
    (((c : Thread nD τ).loc main_v0 ↦{fullShare} XA) : sProp 𝕄) = bigSep Finset.univ (home c XA) := by
  refine (Ring.pointsTo_blocks (ℓ := (c : Thread nD τ).loc main_v0) blkSet blkSet_disjoint blkSet_cover XA).trans ?_
  refine congrArg (bigSep Finset.univ) (funext fun k => ?_)
  exact Entails.antisymm (pointsTo_union (halves_disjoint k)).1 (pointsTo_union (halves_disjoint k)).2
/-- The result held whole is its forty blocks. -/
theorem result_blocks (c : Dev nD) (f : Buf (Elt F) (oM.view.loc (c : Thread nD τ))) :
    (((c : Thread nD τ).loc main_v6 ↦{fullShare} f) : sProp 𝕄) = bigSep Finset.univ (dblk c f) := by
  refine (Ring.pointsTo_blocks (ℓ := (c : Thread nD τ).loc main_v6) blkSet blkSet_disjoint blkSet_cover f).trans ?_
  refine congrArg (bigSep Finset.univ) (funext fun k => ?_)
  have e (h : Fin 2) : dstP c k h f = (((c : Thread nD τ).loc main_v6 ↦[srcSet k h]{fullShare} f) : sProp 𝕄) :=
    congrArg (fun S : Finset S8x2x128x16000.Idx => (((c : Thread nD τ).loc main_v6 ↦[S]{fullShare} f) : sProp 𝕄)) (set_dst k h)
  refine (Entails.antisymm (pointsTo_union (halves_disjoint k)).1 (pointsTo_union (halves_disjoint k)).2).trans ?_
  show _ = iprop(dstP c k 0 f ∗ dstP c k 1 f)
  rw [e 0, e 1]

abbrev islotSet (p : Fin 5 × Fin 2) : Finset S5x2x128x3200.Idx := (islot p.1 p.2).view.set
abbrev oslotSet (p : Fin 2 × Fin 2) : Finset S2x2x128x3200.Idx := (oslot p.1 p.2).view.set
/-- Two half slots of the input ring share no entry. -/
theorem islotSet_disjoint (p p' : Fin 5 × Fin 2) (hp : p ≠ p') : Disjoint (islotSet p) (islotSet p') := by
  rw [Finset.disjoint_left]
  intro i h h'
  have e := (mem_islot p.1 p.2 i).mp h
  have e' := (mem_islot p'.1 p'.2 i).mp h'
  exact hp (Prod.ext (Fin.ext (by omega)) (Fin.ext (by omega)))
/-- Two half slots of the output ring share no entry. -/
theorem oslotSet_disjoint (p p' : Fin 2 × Fin 2) (hp : p ≠ p') : Disjoint (oslotSet p) (oslotSet p') := by
  rw [Finset.disjoint_left]
  intro i h h'
  have e := (mem_oslot p.1 p.2 i).mp h
  have e' := (mem_oslot p'.1 p'.2 i).mp h'
  exact hp (Prod.ext (Fin.ext (by omega)) (Fin.ext (by omega)))
/-- The half slots together are the input ring. -/
theorem islotSet_cover : Finset.univ.biUnion islotSet = Finset.univ := by
  ext i
  simp only [Finset.mem_biUnion, Finset.mem_univ, true_and, iff_true]
  exact ⟨(⟨(i 0).val, (i 0).isLt⟩, ⟨(i 1).val, (i 1).isLt⟩), (mem_islot _ _ i).mpr ⟨rfl, rfl⟩⟩
/-- The half slots together are the output ring. -/
theorem oslotSet_cover : Finset.univ.biUnion oslotSet = Finset.univ := by
  ext i
  simp only [Finset.mem_biUnion, Finset.mem_univ, true_and, iff_true]
  exact ⟨(⟨(i 0).val, (i 0).isLt⟩, ⟨(i 1).val, (i 1).isLt⟩), (mem_oslot _ _ i).mpr ⟨rfl, rfl⟩⟩

/-- Ten resources indexed by slot and half, written out. -/
theorem bigSep_5x2 {M : Type} [URA M] (Φ : Fin 5 × Fin 2 → sProp M) : bigSep Finset.univ Φ
    = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1)) :=
  bigSep_univ_eq_bigSepL [(0, 0), (0, 1), (1, 0), (1, 1), (2, 0), (2, 1), (3, 0), (3, 1), (4, 0), (4, 1)] (by decide) (by decide) Φ
/-- Four resources indexed by slot and half, written out. -/
theorem bigSep_2x2 {M : Type} [URA M] (Φ : Fin 2 × Fin 2 → sProp M) : bigSep Finset.univ Φ
    = iprop(Φ (0, 0) ∗ Φ (0, 1) ∗ Φ (1, 0) ∗ Φ (1, 1)) :=
  bigSep_univ_eq_bigSepL [(0, 0), (0, 1), (1, 0), (1, 1)] (by decide) (by decide) Φ

/-- The input ring's buffer at some contents is its ten half slots at some contents. -/
theorem islots_split (c : Dev nD) : (iprop(∃ f : Buf (Elt F) ((c : Thread nD τ).loc cc0_scratch1), (c : Thread nD τ).loc cc0_scratch1 ↦{fullShare} f) : sProp 𝕄)
    ⊢ bigSep Finset.univ fun p : Fin 5 × Fin 2 => iprop(∃ f, islotP c p.1 p.2 f) := by
  iintro ⟨%f, H⟩
  ihave H := (Entails.of_eq (Ring.pointsTo_blocks (ℓ := (c : Thread nD τ).loc cc0_scratch1) islotSet islotSet_disjoint islotSet_cover f)) $$ H
  have hx : (bigSep Finset.univ fun p : Fin 5 × Fin 2 => (islotP c p.1 p.2 f : sProp 𝕄)) ⊢ bigSep Finset.univ fun p : Fin 5 × Fin 2 => iprop(∃ f, islotP c p.1 p.2 f) :=
    bigSep_mono fun p _ => exists_intro (Φ := fun f => islotP c p.1 p.2 f) f
  iapply hx; iexact H
/-- The half slots of the input ring, joined to the whole buffer. -/
theorem islots_join (c : Dev nD) : (bigSep Finset.univ fun p : Fin 5 × Fin 2 => (iprop(∃ f, islotP (F := F) c p.1 p.2 f) : sProp 𝕄))
    ⊢ iprop(∃ f : Buf (Elt F) ((c : Thread nD τ).loc cc0_scratch1), (c : Thread nD τ).loc cc0_scratch1 ↦{fullShare} f) :=
  Ring.pointsTo_blocks_join_exists (ℓ := (c : Thread nD τ).loc cc0_scratch1) islotSet islotSet_disjoint islotSet_cover (islot 0 0).view.junk
/-- The output ring's buffer at some contents is its four half slots at some contents. -/
theorem oslots_split (c : Dev nD) : (iprop(∃ f : Buf (Elt F) ((c : Thread nD τ).loc cc0_scratch2), (c : Thread nD τ).loc cc0_scratch2 ↦{fullShare} f) : sProp 𝕄)
    ⊢ bigSep Finset.univ fun p : Fin 2 × Fin 2 => iprop(∃ f, oslotP c p.1 p.2 f) := by
  iintro ⟨%f, H⟩
  ihave H := (Entails.of_eq (Ring.pointsTo_blocks (ℓ := (c : Thread nD τ).loc cc0_scratch2) oslotSet oslotSet_disjoint oslotSet_cover f)) $$ H
  have hx : (bigSep Finset.univ fun p : Fin 2 × Fin 2 => (oslotP c p.1 p.2 f : sProp 𝕄)) ⊢ bigSep Finset.univ fun p : Fin 2 × Fin 2 => iprop(∃ f, oslotP c p.1 p.2 f) :=
    bigSep_mono fun p _ => exists_intro (Φ := fun f => oslotP c p.1 p.2 f) f
  iapply hx; iexact H
/-- The half slots of the output ring, joined to the whole buffer. -/
theorem oslots_join (c : Dev nD) : (bigSep Finset.univ fun p : Fin 2 × Fin 2 => (iprop(∃ f, oslotP (F := F) c p.1 p.2 f) : sProp 𝕄))
    ⊢ iprop(∃ f : Buf (Elt F) ((c : Thread nD τ).loc cc0_scratch2), (c : Thread nD τ).loc cc0_scratch2 ↦{fullShare} f) :=
  Ring.pointsTo_blocks_join_exists (ℓ := (c : Thread nD τ).loc cc0_scratch2) oslotSet oslotSet_disjoint oslotSet_cover (oslot 0 0).view.junk

/-- The kernel's own transfer cells: ten of the input ring, four of the output ring. -/
def osem : Fin 14 → SemLoc sig
  | 0 => .dma 3 | 1 => .dma 4 | 2 => .dma 5 | 3 => .dma 6 | 4 => .dma 7 | 5 => .dma 8 | 6 => .dma 9
  | 7 => .dma 10 | 8 => .dma 11 | 9 => .dma 12 | 10 => .dma 13 | 11 => .dma 14 | 12 => .dma 15 | 13 => .dma 16
/-- The two arrays of cells are not used by the staging. -/
theorem ownSemFacts : Pipeline.OwnSemFacts spec0 osem := by decide
/-- The cells of the two rings, written out. -/
theorem own_cells (c : Dev nD) : (Pipeline.ownSems0 (Ix := Unit) (Name := ℕ) (U := Pipeline.UD sig nD τ) (Lvl := ℕ) (Val := Elt F) osem c : sProp 𝕄)
    = iprop(icellP c 0 0 ∗ icellP c 0 1 ∗ icellP c 1 0 ∗ icellP c 1 1 ∗ icellP c 2 0 ∗ icellP c 2 1 ∗ icellP c 3 0 ∗ icellP c 3 1 ∗ icellP c 4 0 ∗ icellP c 4 1
        ∗ ocellP c 0 0 ∗ ocellP c 0 1 ∗ ocellP c 1 0 ∗ ocellP c 1 1) := by
  rw [Pipeline.ownSems0_eq_of_list c osem [0, 1, 2, 3, 4, 5, 6, 7, 8, 9, 10, 11, 12, 13] (by decide) (by decide)]
  rfl

end Cert.KernelIdeal.Hand

end
-- ==== Proof.ILaunch.lean ====
module

public import proofs.«01_k».proof.Proof.Gen.KernelIdeal.Frame
public import Idealize.ShloMosaic.Lib.Pipeline.FrameSuffixV
public import proofs.«01_k».proof.Proof.ISplit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! The launch: the body at every point under the pipeline, and what the run leaves. -/

variable (m : (ℓ : Loc nD τ sig) → Buf (Elt F) ℓ) (ρ : Dev nD → PrngReg)

/-- The point whose blocks of the three staged operands stand for those of every point. -/
abbrev pt0 : Fin cfg0.N := ⟨0, by decide⟩
/-- The weights block is the same at every point. -/
theorem iblk0_const (c : Dev nD) (t : Fin cfg0.N) : iblk m c 0 t = iblk m c 0 pt0 := rfl
/-- The triangle block is the same at every point. -/
theorem iblk1_const (c : Dev nD) (t : Fin cfg0.N) : iblk m c 1 t = iblk m c 1 pt0 := rfl
/-- The block of ones is the same at every point. -/
theorem iblk2_const (c : Dev nD) (t : Fin cfg0.N) : iblk m c 2 t = iblk m c 2 pt0 := rfl

/-- The input, the ones, the triangle, the two halves of the weight and the result's array, as the launch finds them. -/
abbrev XAm (c : Dev nD) : Buf (Elt F) (xM.view.loc (c : Thread nD τ)) := V m c main_v0
abbrev FOm (c : Dev nD) : Buf (Elt F) (oM.view.loc (c : Thread nD τ)) := V m c main_v6
def onesm (c : Dev nD) : Vec F S8x128 .bf16 := fun y =>
  (iblk m c 2 pt0 : S8x128.Idx → Elt F .bf16) ((Rect.unit (s := S8x128) ![0, 0] S8x128.size inb_S8x128_S8x128_0_0).toLoadRect.idx y)
def trim (c : Dev nD) : Vec F S640x640 .bf16 := fun y =>
  (iblk m c 1 pt0 : S640x640.Idx → Elt F .bf16) ((Rect.unit (s := S640x640) ![0, 0] S640x640.size inb_S640x640_S640x640_0_0).toLoadRect.idx y)
def wt0m (c : Dev nD) : Vec F S1x128x128 .f32 := fun y =>
  (iblk m c 0 pt0 : S2x128x128.Idx → Elt F .f32) ((Rect.unit (s := S2x128x128) ![0, 0, 0] S1x128x128.size inb_S2x128x128_S1x128x128_0_0_0).toLoadRect.idx y)
def wt1m (c : Dev nD) : Vec F S1x128x128 .f32 := fun y =>
  (iblk m c 0 pt0 : S2x128x128.Idx → Elt F .f32) ((Rect.unit (s := S2x128x128) ![1, 0, 0] S1x128x128.size inb_S2x128x128_S1x128x128_1_0_0).toLoadRect.idx y)

/-- What the run leaves in the result's array. -/
def GOm (c : Dev nD) : Buf (Elt F) (oM.view.loc (c : Thread nD τ)) := GO c (XAm m c) (onesm m c) (trim m c) (wt0m m c) (wt1m m c)
abbrev InvM (c : Dev nD) (p : ℕ) : sProp 𝕄 := Inv c (XAm m c) (onesm m c) (trim m c) (wt0m m c) (wt1m m c) (FOm m c) p

/-- The proof data: arrays as found, staged operands left in place, the rings and the carry kept from point to point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := InvM m c t.val
  q _ := fullShare
  owed _ := 0

/-- The arrays of the proof data are those the launch finds. -/
theorem A_eq (c : Dev nD) (w : Fin cfg0.W) : (dats m 0 c).A w = V m c (Pipeline.arrRef spec0 w) := by
  dsimp only [dats]
/-- The body leaves the weights block in place. -/
theorem after0 (c : Dev nD) (t : Fin cfg0.N) : (dats m 0 c).after 0 t = iblk m c 0 t := by dsimp only [dats]
/-- The body leaves the triangle block in place. -/
theorem after1 (c : Dev nD) (t : Fin cfg0.N) : (dats m 0 c).after 1 t = iblk m c 1 t := by dsimp only [dats]
/-- The body leaves the block of ones in place. -/
theorem after2 (c : Dev nD) (t : Fin cfg0.N) : (dats m 0 c).after 2 t = iblk m c 2 t := by dsimp only [dats]
/-- Each staged operand is in its buffer at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The body finds the triangle block staged. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- The body finds the block of ones staged. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at point `t` takes the rings and the carry from before the point to after it, the staged operands as they are. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  rw [after0, after1, after2]
  rw [show (dats m 0 c).Φ t.castSucc = InvM m c t.val from rfl, show (dats m 0 c).Φ t.succ = InvM m c (t.val + 1) from rfl]
  unfold Dat.owesAt Pipeline.owesWithin
  rw [show (dats m 0 c).owed t.castSucc = 0 from rfl, show (dats m 0 c).owed t.succ = 0 from rfl]
  simp only [before0, before1, before2]
  unfold owns
  iintro ⟨HI, ⟨%W, -, HW⟩, ⟨%d0, %g3, %e3, H3⟩, ⟨%d1, %g4, %e4, H4⟩, ⟨%d2, %g5, %e5, H5⟩⟩
  iapply (body_run c (XAm m c) (st0_0 t) (hstage0_0 ((cfg0.slots t 0).cast nbuf0_0)) (st0_1 t) (hstage0_1 ((cfg0.slots t 1).cast nbuf0_1)) (st0_2 t) (hstage0_2 ((cfg0.slots t 2).cast nbuf0_2)) t (onesm m c) (trim m c) (wt0m m c) (wt1m m c) (FOm m c) g3 g4 g5
    (funext fun y => (congrFun e5 _).symm) (funext fun y => (congrFun e4 _).symm) (funext fun y => (congrFun e3 _).symm) (funext fun y => (congrFun e3 _).symm) W _)
  isplitl [HI]; · iexact HI
  isplitl [HW]; · iexact HW
  isplitl [H3 H4 H5]
  · isplitl [H3]; · iexact H3
    isplitl [H4]; · iexact H4
    iexact H5
  iintro ⟨HI, ⟨%W', HW⟩, H3, H4, H5⟩
  isplitl [HI]; · iexact HI
  isplitl [HW]
  · iexists W'; isplitr
    · ipureintro; exact fun _ _ => Or.inl trivial
    iexact HW
  isplitl [H3]
  · iexists g3; isplitr
    · ipureintro; exact e3
    iexact H3
  isplitl [H4]
  · iexists g4; isplitr
    · ipureintro; exact e4
    iexact H4
  iexists g5; isplitr
  · ipureintro; exact e5
  iexact H5

/-- The body of the launch at a point is the kernel at that point. -/
theorem defs₀_row (t : Fin cfg0.N) :
    defs₀ (F := F) .tc cfg0.body (cfg0.bodyArgs t (cfg0.slots t)) = bodyAt0 t := by
  unfold defs₀; rw [Defs.onTc_tc]

/-- The body keeps the invariant at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-- The array the kernel reads by its own copies, and the one it writes by them. -/
abbrev H0 : Finset (Ref sig .tc) := {main_v0}
abbrev R0 : Finset (Ref sig .tc) := {main_v6}
/-- The arrays copied by hand are outside the staged ones. -/
theorem H0_sub : H0 ⊆ Pipeline.restRefs sig spec0 := by decide
/-- The result array is outside the staged ones and not a read one. -/
theorem R0_sub : R0 ⊆ Pipeline.restRefs sig spec0 \ H0 := by decide
/-- The contents after the run of the arrays the kernel writes by its own copies. -/
def G (c : Dev nD) (b : Ref sig .tc) : Buf (Elt F) ((c.tc : Thread nD τ).loc b) :=
  Function.update (β := fun b : Ref sig .tc => Buf (Elt F) ((c.tc : Thread nD τ).loc b)) (V m c) main_v6 (GOm m c) b
/-- The result array holds the composed result after the launch. -/
theorem G_v6 (c : Dev nD) : G m c main_v6 = GOm m c := Function.update_self ..

/-- At the first point nothing is asked of the carry. -/
theorem carry0 (c : Dev nD) (f : Buf (Elt F) (carryM.view.loc (c : Thread nD τ))) : (carryP c f : sProp 𝕄) ⊢ carryI c (XAm m c) (onesm m c) (trim m c) 0 := by
  iintro H; iexists f; isplitr
  · ipureintro; exact fun h => absurd rfl h
  iexact H

/-- Before the first point: the slots and cells free, the arrays whole. -/
theorem launch_in (c : Dev nD) : Pipeline.ΦDRV (Val := Elt F) osem spec0 H0 R0 (V m) (V m) c ⊢ (InvM m c 0 : sProp 𝕄) := by
  unfold Pipeline.ΦDRV InvM Inv
  rw [scopedRest0_eq, own_cells, Φin_zero, Φout_lt _ _ _ _ _ _ _ (by decide), bigSep_singleton, bigSep_singleton, orole_lt _ _ _ _ _ _ (by decide), orole_lt _ _ _ _ _ _ (by decide)]
  unfold blocks
  rw [show Ring.rangeSet 40 0 40 = Finset.univ from Ring.rangeSet_univ, show Ring.rangeSet 40 0 (0 - 2) = ∅ from Ring.rangeSet_empty (by decide), bigSep_empty]
  iintro ⟨⟨HA, HB, ⟨%fc, HC⟩⟩, ⟨C0, C1, C2, C3, C4, C5, C6, C7, C8, C9, D0, D1, D2, D3⟩, HX, HO⟩
  ihave HX := (Entails.of_eq (input_blocks c (XAm m c))) $$ HX
  ihave HO := (Entails.of_eq (result_blocks c (FOm m c))) $$ HO
  ihave HA := (islots_split c) $$ HA
  ihave HA := (Entails.of_eq (bigSep_5x2 _)) $$ HA
  icases HA with ⟨A0, A1, A2, A3, A4, A5, A6, A7, A8, A9⟩
  ihave HB := (oslots_split c) $$ HB
  ihave HB := (Entails.of_eq (bigSep_2x2 _)) $$ HB
  icases HB with ⟨B0, B1, B2, B3⟩
  isplitl [A0 A1 A2 A3 A4 A5 A6 A7 A8 A9 C0 C1 C2 C3 C4 C5 C6 C7 C8 C9 HX]
  · isplitr [HX]
    · isplitl [A0 A1 C0 C1]
      · isplitl [A0]; · iexact A0
        isplitl [A1]; · iexact A1
        isplitl [C0]; · iexact C0
        iexact C1
      isplitl [A2 A3 C2 C3]
      · isplitl [A2]; · iexact A2
        isplitl [A3]; · iexact A3
        isplitl [C2]; · iexact C2
        iexact C3
      isplitl [A4 A5 C4 C5]
      · isplitl [A4]; · iexact A4
        isplitl [A5]; · iexact A5
        isplitl [C4]; · iexact C4
        iexact C5
      isplitl [A6 A7 C6 C7]
      · isplitl [A6]; · iexact A6
        isplitl [A7]; · iexact A7
        isplitl [C6]; · iexact C6
        iexact C7
      isplitl [A8]; · iexact A8
      isplitl [A9]; · iexact A9
      isplitl [C8]; · iexact C8
      iexact C9
    iexact HX
  isplitl [HC]
  · iapply (carry0 m c fc); iexact HC
  isplitr [HO]
  · isplitl [B0 B1 D0 D1]
    · isplitl [B0]; · iexact B0
      isplitl [B1]; · iexact B1
      isplitl [D0]; · iexact D0
      iexact D1
    isplitl [B2]; · iexact B2
    isplitl [B3]; · iexact B3
    isplitl [D2]; · iexact D2
    iexact D3
  isplitl [HO]; · iexact HO
  iempintro

/-- After the last point: the slots and cells free again, the input whole as found, the result whole at the values computed. -/
theorem launch_out (c : Dev nD) : (InvM m c 40 : sProp 𝕄) ⊢ Pipeline.ΦDRV (Val := Elt F) osem spec0 H0 R0 (V m) (G m) c := by
  unfold Pipeline.ΦDRV InvM Inv
  rw [scopedRest0_eq, own_cells, Φin_pos _ _ (by decide), Φout_ge _ _ _ _ _ _ _ (by decide), bigSep_singleton, bigSep_singleton, inR_ge _ _ (by decide), inR_ge _ _ (by decide), inR_ge _ _ (by decide), inR_ge _ _ (by decide), G_v6]
  rw [show Ring.homeSet 4 40 = (Finset.univ : Finset (Fin 40)) from Ring.homeSet_last 4 40 (le_refl 40)]
  rw [show Ring.sl 5 40 = 0 from rfl, show Ring.sl 5 (40 + 1) = 1 from rfl, show Ring.sl 5 (40 + 2) = 2 from rfl, show Ring.sl 5 (40 + 3) = 3 from rfl, show Ring.sl 5 (40 + 4) = 4 from rfl]
  iintro ⟨⟨⟨⟨A0, A1, C0, C1⟩, ⟨A2, A3, C2, C3⟩, ⟨A4, A5, C4, C5⟩, ⟨A6, A7, C6, C7⟩, ⟨A8, A9, C8, C9⟩⟩, HX⟩, ⟨%fc, -, HC⟩, ⟨⟨B0, B1, D0, D1⟩, ⟨B2, B3, D2, D3⟩⟩, HO⟩
  isplitl [A0 A1 A2 A3 A4 A5 A6 A7 A8 A9 B0 B1 B2 B3 HC]
  · isplitl [A0 A1 A2 A3 A4 A5 A6 A7 A8 A9]
    · iapply (islots_join c)
      iapply (Entails.of_eq (bigSep_5x2 _).symm)
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    isplitl [B0 B1 B2 B3]
    · iapply (oslots_join c)
      iapply (Entails.of_eq (bigSep_2x2 _).symm)
      isplitl [B0]; · iexact B0
      isplitl [B1]; · iexact B1
      isplitl [B2]; · iexact B2
      iexact B3
    iexists fc; iexact HC
  isplitl [C0 C1 C2 C3 C4 C5 C6 C7 C8 C9 D0 D1 D2 D3]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [D0]; · iexact D0
    isplitl [D1]; · iexact D1
    isplitl [D2]; · iexact D2
    iexact D3
  isplitl [HX]
  · iapply (Entails.of_eq (input_blocks c (XAm m c)).symm); iexact HX
  iapply (Entails.of_eq (result_blocks c (GOm m c)).symm); iexact HO

set_option maxHeartbeats 800000 in
/-- The program is its host prelude, the launch and the closing reshape. -/
theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- What every buffer outside the pipeline holds after the run. -/
def endVal (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
/-- The run: it ends with every transfer cell at zero and the buffers at `endVal`. -/
theorem run_main : θ_run defs (onTc (τ := τ) (main (F := F))) (s₀ m ρ) (fun r => (∀ c : Dev nD, ∀ b ∈ Pipeline.restRefs sig spec0,
      r.2.mem ((c.tc : Thread nD τ).loc b) = endVal m c (Proc.devRef .tc b)) ∧ r.2.sem = fun _ => 0) :=
  Pipeline.θ_run_frame_dmaR_aroundV (Q' := _) cfgs (dats m) (0 : Fin 1) launch0 osem defs₀ 𝒱₀ ownSemFacts H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := main_around m) (hA := A_eq m)
    (hin := fun c => launch_in m c) (hout := fun c => launch_out m c)
    (hQ' := fun r h => ⟨fun c => (h.1 c).2, h.2⟩)

/-- An array that neither the launch nor the closing reshape writes ends as the launch found it. -/
theorem end_arg (c : Dev nD) (b : Ref sig .tc) (hb : ∀ op ∈ ([hostOps1].flatten : List (HloOp τ sig (Elt F))), Proc.devRef .tc b ∉ op.writes)
    (ha : ∀ w, Pipeline.arrRef spec0 w ≠ b) (hr : b ∉ R0) : endVal m c (Proc.devRef .tc b) = V m c b := by
  unfold endVal
  rw [StableHlo.after_of_forall_not_mem (b := Proc.devRef .tc b) _ _ hb, Pipeline.withArrays_of_ne _ c _ _ b ha, Pipeline.withR_of_not_mem _ _ _ _ _ hr]

/-- The run leaves the three arguments as they were and every transfer cell at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have hw (b : Ref sig .tc) (hb : main_v7 ≠ b) : ∀ op ∈ ([hostOps1].flatten : List (HloOp τ sig (Elt F))), Proc.devRef .tc b ∉ op.writes := by
    intro op hop
    simp only [List.flatten_cons, List.flatten_nil, List.append_nil, hostOps1, List.mem_cons, List.mem_nil_iff, or_false] at hop
    subst hop
    simp only [StableHlo.reshape_writes, StableHlo.unary_writes, Finset.mem_singleton]
    exact StableHlo.devRef_ne_of_ne hb.symm
  exact (θ_run defs _ _).mono (fun r h => ⟨fun c =>
    ⟨(h.1 c main_arg0 (Pipeline.mem_restRefs_of main_arg0 (by decide) (by decide))).trans ((end_arg m c main_arg0 (hw _ (by decide)) (by decide) (by decide)).trans (V_main_arg0 m c)),
     (h.1 c main_arg1 (Pipeline.mem_restRefs_of main_arg1 (by decide) (by decide))).trans ((end_arg m c main_arg1 (hw _ (by decide)) (by decide) (by decide)).trans (V_main_arg1 m c)),
     (h.1 c main_arg2 (Pipeline.mem_restRefs_of main_arg2 (by decide) (by decide))).trans ((end_arg m c main_arg2 (hw _ (by decide)) (by decide) (by decide)).trans (V_main_arg2 m c))⟩, h.2⟩) (run_main m ρ)

end Cert.KernelIdeal.Hand

end
-- ==== Proof.IMath.lean ====
module

public import proofs.«01_k».proof.Proof.INames
public import Idealize.ShloMosaic.Lib.Pointwise
public import Idealize.ShloMosaic.Lib.IdealHost
public import Mathlib.Algebra.Order.BigOperators.Ring.Finset

@[expose] public section

set_option maxRecDepth 16384

noncomputable section

namespace Cert.KernelIdeal.Hand

open Cert.KernelIdeal
open Idealize.ShloMosaic
open scoped BigOperators

/-- A finite sum of reals is the same sum in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The small constant under the square root is a positive real. -/
theorem eps_real : ∃ e : ℝ, 0 < e ∧ Ideal.ofBits .f32 0x358637BD#32 = (e : EReal) := by
  refine ⟨(2 ^ 23 + 407485 : ℝ) * (2 : ℝ) ^ (-43 : ℤ), by positivity, ?_⟩
  simp [Ideal.ofBits, Ideal.ieee, -EReal.coe_mul]
  norm_num

/-- The small constant under the square root. -/
def eps : ℝ := Classical.choose eps_real
/-- The added constant is positive. -/
theorem eps_pos : 0 < eps := (Classical.choose_spec eps_real).1
/-- The literal of the added constant is that real number. -/
theorem ofBits_eps : Ideal.ofBits .f32 0x358637BD#32 = (eps : EReal) := (Classical.choose_spec eps_real).2

/-- The word of 256 is the real 256. -/
theorem ofBits_256 : Ideal.ofBits .f32 0x43800000#32 = ((256 : ℝ) : EReal) := by
  simp [Ideal.ofBits, Ideal.ieee, -EReal.coe_mul]; norm_num

/-- The quotient of two reals, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The square root of a positive real. -/
theorem sqrt_real (v : ℝ) (hv : 0 < v) : Ideal.sqrt (v : EReal) = ((Real.sqrt v : ℝ) : EReal) := by
  show (if v < 0 then ⊥ else (Real.sqrt v : EReal)) = _
  rw [if_neg (not_lt.mpr hv.le)]

/-- The reciprocal square root of a positive real. -/
theorem rsqrt_real (v : ℝ) (hv : 0 < v) : Ideal.rsqrt (v : EReal) = (((Real.sqrt v)⁻¹ : ℝ) : EReal) := by
  show (if v < 0 then ⊥ else if v = 0 then ⊤ else (((Real.sqrt v)⁻¹ : ℝ) : EReal)) = _
  rw [if_neg (not_lt.mpr hv.le), if_neg hv.ne']

/-- A small number as a word, read with its sign, is the number. -/
theorem toInt_small (n : ℕ) (h : n < 2147483648) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

/-- A small number as a word, converted, is the number as a real. -/
theorem sitofp_small (n : ℕ) (h : n < 2147483648) : FloatOps.sitofp (F := Ideal) .f32 (BitVec.ofNat 32 n) = ((n : ℝ) : EReal) := by
  show (((BitVec.ofNat 32 n).toInt : ℝ) : EReal) = _
  rw [toInt_small n h, Int.cast_natCast]

section Answer
variable (X : S8x256x16000.Idx → EReal) (W : S1x256x1.Idx → EReal)

/-- An entry of the input as a real. -/
def xr (b : Fin 8) (ch : Fin 256) (t : Fin 16000) : ℝ := (X (ix3 b ch t)).toReal
/-- The sum over the channels at one time, zero past the end. -/
def cs (b : Fin 8) (t : ℕ) : ℝ := if h : t < 16000 then ∑ ch : Fin 256, xr X b ch ⟨t, h⟩ else 0
/-- The sum of the squares over the channels at one time, zero past the end. -/
def cq (b : Fin 8) (t : ℕ) : ℝ := if h : t < 16000 then ∑ ch : Fin 256, xr X b ch ⟨t, h⟩ * xr X b ch ⟨t, h⟩ else 0
/-- The sum over the channels and over the times before `n`. -/
def sm (b : Fin 8) (n : ℕ) : ℝ := ∑ t ∈ Finset.range n, cs X b t
/-- The sum of the squares over the channels and over the times before `n`. -/
def sq (b : Fin 8) (n : ℕ) : ℝ := ∑ t ∈ Finset.range n, cq X b t
/-- The mean over the channels and the times up to and including `t`. -/
def mean (b : Fin 8) (t : ℕ) : ℝ := sm X b (t + 1) / (((t : ℝ) + 1) * 256)
/-- The variance over the channels and the times up to and including `t`. -/
def var (b : Fin 8) (t : ℕ) : ℝ := sq X b (t + 1) / (((t : ℝ) + 1) * 256) - mean X b t * mean X b t
/-- The normalised and weighted entry. -/
def outAt (b : Fin 8) (ch : Fin 256) (t : Fin 16000) : EReal :=
  W (ix3 0 ch 0) * (((xr X b ch t - mean X b t) * (Real.sqrt (var X b t + eps))⁻¹ : ℝ) : EReal)

/-- The square of a sum over the times and the channels is at most the number of terms times the sum of the squares. -/
theorem sm_sq_le (b : Fin 8) (n : ℕ) (hn : n ≤ 16000) : sm X b n * sm X b n ≤ ((n : ℝ) * 256) * sq X b n := by
  have h1 : sm X b n = ∑ p ∈ (Finset.univ : Finset (Fin n)) ×ˢ (Finset.univ : Finset (Fin 256)), xr X b p.2 ⟨p.1.val, p.1.isLt.trans_le hn⟩ := by
    rw [sm, Finset.sum_range, Finset.sum_product]
    refine Finset.sum_congr rfl fun i _ => ?_
    rw [cs, dif_pos (i.isLt.trans_le hn)]
  have h2 : sq X b n = ∑ p ∈ (Finset.univ : Finset (Fin n)) ×ˢ (Finset.univ : Finset (Fin 256)), xr X b p.2 ⟨p.1.val, p.1.isLt.trans_le hn⟩ ^ 2 := by
    rw [sq, Finset.sum_range, Finset.sum_product]
    refine Finset.sum_congr rfl fun i _ => ?_
    rw [cq, dif_pos (i.isLt.trans_le hn)]
    exact Finset.sum_congr rfl fun _ _ => (pow_two _).symm
  have h3 := Finset.sum_mul_sq_le_sq_mul_sq ((Finset.univ : Finset (Fin n)) ×ˢ (Finset.univ : Finset (Fin 256)))
    (fun p => xr X b p.2 ⟨p.1.val, p.1.isLt.trans_le hn⟩) (fun _ => (1 : ℝ))
  simp only [mul_one, one_pow, Finset.sum_const, Finset.card_product, Finset.card_univ, Fintype.card_fin, nsmul_eq_mul] at h3
  rw [← h1, ← h2, mul_comm (sq X b n)] at h3
  push_cast at h3
  rw [← pow_two]
  exact h3

/-- The variance is not negative. -/
theorem var_nonneg (b : Fin 8) (t : ℕ) (ht : t < 16000) : 0 ≤ var X b t := by
  have h := sm_sq_le X b (t + 1) ht
  have hc : (0 : ℝ) < ((t : ℝ) + 1) * 256 := by positivity
  unfold var mean
  push_cast at h
  rw [div_mul_div_comm, sub_nonneg, div_le_div_iff₀ (mul_pos hc hc) hc]
  nlinarith [mul_le_mul_of_nonneg_right h hc.le]

/-- The quantity under the square root is positive. -/
theorem var_eps_pos (b : Fin 8) (t : ℕ) (ht : t < 16000) : 0 < var X b t + eps := add_pos_of_nonneg_of_pos (var_nonneg X b t ht) eps_pos

end Answer
end Cert.KernelIdeal.Hand
end
-- ==== Proof.ISums.lean ====
module

public import proofs.«01_k».proof.Proof.IMath
public import proofs.«01_k».proof.Proof.ICompute

@[expose] public section

set_option maxRecDepth 16384

noncomputable section

namespace Cert.KernelIdeal.Hand

open Cert.KernelIdeal Cert.KernelIdeal.Gen
open Idealize.ShloMosaic
open scoped BigOperators

section Sums
variable (x0 x1 : Vec Ideal S1x1x128x3200 .f32) (r5 : Vec Ideal S8x128 .bf16) (r4 : Vec Ideal S640x640 .bf16)

/-- A row times the upper triangle of ones is the row's running sum. -/
theorem tri_sum (hr4 : ∀ i j : Fin 640, r4 (ix2 i j) = if i.val ≤ j.val then (1 : EReal) else 0) (l : Fin 640) (A : Fin 640 → EReal) (c : ℕ → ℝ) (off : ℕ)
    (hA : ∀ x : Fin 640, A x = ((c (off + x.val) : ℝ) : EReal)) :
    ∑ x : Fin 640, A x * r4 (ix2 x l) = ((∑ i ∈ Finset.range (l.val + 1), c (off + i) : ℝ) : EReal) := by
  have e : ∀ x : Fin 640, A x * r4 (ix2 x l) = (fun n : ℕ => if n ≤ l.val then ((c (off + n) : ℝ) : EReal) else 0) x.val := by
    intro x
    show _ = if x.val ≤ l.val then ((c (off + x.val) : ℝ) : EReal) else 0
    rw [hA, hr4]
    by_cases h : x.val ≤ l.val
    · rw [if_pos h, if_pos h, mul_one]
    · rw [if_neg h, if_neg h, mul_zero]
  rw [Finset.sum_congr rfl fun x _ => e x, ← Finset.sum_range (fun n : ℕ => if n ≤ l.val then ((c (off + n) : ℝ) : EReal) else 0), coe_sum]
  refine Eq.symm ?_
  have hs : Finset.range (l.val + 1) ⊆ Finset.range 640 := Finset.range_subset_range.mpr l.isLt
  rw [← Finset.sum_subset hs]
  · refine Finset.sum_congr rfl fun n hn => ?_
    rw [if_pos (Nat.lt_succ_iff.mp (Finset.mem_range.mp hn))]
  · intro n _ hn
    rw [if_neg fun h => hn (Finset.mem_range.mpr (Nat.lt_succ_of_le h))]

variable (p q : Fin 128 → Fin 3200 → ℝ)
  (h0 : ∀ r j, x0 (ix4 0 0 r j) = ((p r j : ℝ) : EReal)) (h1 : ∀ r j, x1 (ix4 0 0 r j) = ((q r j : ℝ) : EReal))
  (hr5 : ∀ i j, r5 (ix2 i j) = (1 : EReal)) (hr4 : ∀ i j : Fin 640, r4 (ix2 i j) = if i.val ≤ j.val then (1 : EReal) else 0)
  (c d : ℕ → ℝ) (hc : ∀ j : Fin 3200, c j.val = ∑ r, p r j + ∑ r, q r j)
  (hd : ∀ j : Fin 3200, d j.val = ∑ r, p r j * p r j + ∑ r, q r j * q r j)

include h0 h1 hr5 hc in
/-- The sum over the two halves of the channels at one time. -/
theorem chan (i : Fin 8) (j : Fin 3200) : (∑ x : Fin 128, r5 (ix2 i x) * x0 (ix4 0 0 x j) + ∑ x : Fin 128, r5 (ix2 i x) * x1 (ix4 0 0 x j) : EReal) = ((c j.val : ℝ) : EReal) := by
  rw [hc, EReal.coe_add, coe_sum, coe_sum]
  refine congrArg₂ (fun a b : EReal => a + b) (Finset.sum_congr rfl fun x _ => ?_) (Finset.sum_congr rfl fun x _ => ?_)
  · rw [hr5, one_mul, h0]
  · rw [hr5, one_mul, h1]

include h0 h1 hr5 hd in
/-- The sum of the squares over the two halves of the channels at one time. -/
theorem chan_sq (i : Fin 8) (j : Fin 3200) : (∑ x : Fin 128, r5 (ix2 i x) * (x0 (ix4 0 0 x j) * x0 (ix4 0 0 x j)) + ∑ x : Fin 128, r5 (ix2 i x) * (x1 (ix4 0 0 x j) * x1 (ix4 0 0 x j)) : EReal) = ((d j.val : ℝ) : EReal) := by
  rw [hd, EReal.coe_add, coe_sum, coe_sum]
  refine congrArg₂ (fun a b : EReal => a + b) (Finset.sum_congr rfl fun x _ => ?_) (Finset.sum_congr rfl fun x _ => ?_)
  · rw [hr5, one_mul, h0, EReal.coe_mul]
  · rw [hr5, one_mul, h1, EReal.coe_mul]

include h0 h1 hr5 hr4 hc hd
/-- Row 0 of the stacked running sums: the sums of sub-block 0. -/
theorem sums_row0 (l : Fin 640) : sums x0 x1 r5 r4 (ix2 0 l) = ((∑ i ∈ Finset.range (l.val + 1), c (0 + i) : ℝ) : EReal) := by
  pointwise [sums, k0_pay3, k0_pay1, k0_pay2]
  refine Eq.trans (tri_sum r4 hr4 l _ c 0 fun x => (chan x0 x1 r5 p q h0 h1 hr5 c hc 0 ⟨x.val, by have := x.isLt; omega⟩).trans (by congr 2 <;> simp)) (by simp only [zero_add])
/-- Row 1 of the stacked running sums: the sums of sub-block 1. -/
theorem sums_row1 (l : Fin 640) : sums x0 x1 r5 r4 (ix2 1 l) = ((∑ i ∈ Finset.range (l.val + 1), c (640 + i) : ℝ) : EReal) := by
  pointwise [sums, k0_pay3, k0_pay1, k0_pay2]
  exact tri_sum r4 hr4 l _ c 640 fun x => (chan x0 x1 r5 p q h0 h1 hr5 c hc 0 ⟨640 + x.val, by have := x.isLt; omega⟩).trans (by congr 2 <;> simp)
/-- Row 2 of the stacked running sums: the sums of sub-block 2. -/
theorem sums_row2 (l : Fin 640) : sums x0 x1 r5 r4 (ix2 2 l) = ((∑ i ∈ Finset.range (l.val + 1), c (1280 + i) : ℝ) : EReal) := by
  pointwise [sums, k0_pay3, k0_pay1, k0_pay2]
  exact tri_sum r4 hr4 l _ c 1280 fun x => (chan x0 x1 r5 p q h0 h1 hr5 c hc 0 ⟨1280 + x.val, by have := x.isLt; omega⟩).trans (by congr 2 <;> simp)
/-- Row 3 of the stacked running sums: the sums of sub-block 3. -/
theorem sums_row3 (l : Fin 640) : sums x0 x1 r5 r4 (ix2 3 l) = ((∑ i ∈ Finset.range (l.val + 1), c (1920 + i) : ℝ) : EReal) := by
  pointwise [sums, k0_pay3, k0_pay1, k0_pay2]
  exact tri_sum r4 hr4 l _ c 1920 fun x => (chan x0 x1 r5 p q h0 h1 hr5 c hc 0 ⟨1920 + x.val, by have := x.isLt; omega⟩).trans (by congr 2 <;> simp)
/-- Row 4 of the stacked running sums: the sums of sub-block 4. -/
theorem sums_row4 (l : Fin 640) : sums x0 x1 r5 r4 (ix2 4 l) = ((∑ i ∈ Finset.range (l.val + 1), c (2560 + i) : ℝ) : EReal) := by
  pointwise [sums, k0_pay3, k0_pay1, k0_pay2]
  exact tri_sum r4 hr4 l _ c 2560 fun x => (chan x0 x1 r5 p q h0 h1 hr5 c hc 0 ⟨2560 + x.val, by have := x.isLt; omega⟩).trans (by congr 2 <;> simp)
/-- Row 5 of the stacked running sums: the sums of squares of sub-block 0. -/
theorem sums_row5 (l : Fin 640) : sums x0 x1 r5 r4 (ix2 5 l) = ((∑ i ∈ Finset.range (l.val + 1), d (0 + i) : ℝ) : EReal) := by
  pointwise [sums, k0_pay3, k0_pay1, k0_pay2]
  refine Eq.trans (tri_sum r4 hr4 l _ d 0 fun x => (chan_sq x0 x1 r5 p q h0 h1 hr5 d hd 0 ⟨x.val, by have := x.isLt; omega⟩).trans (by congr 2 <;> simp)) (by simp only [zero_add])
/-- Row 6 of the stacked running sums: the sums of squares of sub-block 1. -/
theorem sums_row6 (l : Fin 640) : sums x0 x1 r5 r4 (ix2 6 l) = ((∑ i ∈ Finset.range (l.val + 1), d (640 + i) : ℝ) : EReal) := by
  pointwise [sums, k0_pay3, k0_pay1, k0_pay2]
  exact tri_sum r4 hr4 l _ d 640 fun x => (chan_sq x0 x1 r5 p q h0 h1 hr5 d hd 0 ⟨640 + x.val, by have := x.isLt; omega⟩).trans (by congr 2 <;> simp)
/-- Row 7 of the stacked running sums: the sums of squares of sub-block 2. -/
theorem sums_row7 (l : Fin 640) : sums x0 x1 r5 r4 (ix2 7 l) = ((∑ i ∈ Finset.range (l.val + 1), d (1280 + i) : ℝ) : EReal) := by
  pointwise [sums, k0_pay3, k0_pay1, k0_pay2]
  exact tri_sum r4 hr4 l _ d 1280 fun x => (chan_sq x0 x1 r5 p q h0 h1 hr5 d hd 0 ⟨1280 + x.val, by have := x.isLt; omega⟩).trans (by congr 2 <;> simp)
/-- Row 8 of the stacked running sums: the sums of squares of sub-block 3. -/
theorem sums_row8 (l : Fin 640) : sums x0 x1 r5 r4 (ix2 8 l) = ((∑ i ∈ Finset.range (l.val + 1), d (1920 + i) : ℝ) : EReal) := by
  pointwise [sums, k0_pay3, k0_pay1, k0_pay2]
  exact tri_sum r4 hr4 l _ d 1920 fun x => (chan_sq x0 x1 r5 p q h0 h1 hr5 d hd 0 ⟨1920 + x.val, by have := x.isLt; omega⟩).trans (by congr 2 <;> simp)
/-- Row 9 of the stacked running sums: the sums of squares of sub-block 4. -/
theorem sums_row9 (l : Fin 640) : sums x0 x1 r5 r4 (ix2 9 l) = ((∑ i ∈ Finset.range (l.val + 1), d (2560 + i) : ℝ) : EReal) := by
  pointwise [sums, k0_pay3, k0_pay1, k0_pay2]
  exact tri_sum r4 hr4 l _ d 2560 fun x => (chan_sq x0 x1 r5 p q h0 h1 hr5 d hd 0 ⟨2560 + x.val, by have := x.isLt; omega⟩).trans (by congr 2 <;> simp)

end Sums
end Cert.KernelIdeal.Hand
end
-- ==== Proof.ITiles.lean ====
module

public import proofs.«01_k».proof.Proof.ISums

@[expose] public section

set_option maxRecDepth 16384

noncomputable section

namespace Cert.KernelIdeal.Hand

open Cert.KernelIdeal Cert.KernelIdeal.Gen
open Idealize.ShloMosaic
open scoped BigOperators

/-- The weights of the first half, repeated along the lanes. -/
theorem pay4_at (wr : Vec Ideal S1x128x128 .f32) (ω : Fin 128 → EReal) (hw : ∀ r j, wr (ix3 0 r j) = ω r) (r : Fin 128) (l : Fin 640) :
    k0_pay4 wr (ix2 r l) = ω r := by
  pointwise [k0_pay4]
  simp only [hw, dite_eq_ite, ite_self]
/-- The weights of the second half, repeated along the lanes. -/
theorem pay5_at (wr : Vec Ideal S1x128x128 .f32) (ω : Fin 128 → EReal) (hw : ∀ r j, wr (ix3 0 r j) = ω r) (r : Fin 128) (l : Fin 640) :
    k0_pay5 wr (ix2 r l) = ω r := by
  pointwise [k0_pay5]
  simp only [hw, dite_eq_ite, ite_self]

/-- The number of entries summed up to a lane, as the kernel computes the word, and its reciprocal. -/
theorem cnt_at (tb : Fin 5) (off : ℕ) (l : Fin 640) (hoff : off ≤ 2560) :
    Ideal.div 1 (FloatOps.sitofp (F := Ideal) .f32 (IntOp.muli (IntOp.addi (BitVec.ofNat 32 l.val)
      (Scalar.addi (Scalar.addi (Scalar.muli (BitVec.ofNat 32 tb.val) 3200#32) (BitVec.ofNat 32 off)) 1#32)) 256#32))
      = ((((((3200 * tb.val + (off + l.val) : ℕ) : ℝ) + 1) * 256)⁻¹ : ℝ) : EReal) := by
  have e : IntOp.muli (IntOp.addi (BitVec.ofNat 32 l.val)
      (Scalar.addi (Scalar.addi (Scalar.muli (BitVec.ofNat 32 tb.val) 3200#32) (BitVec.ofNat 32 off)) 1#32)) 256#32
      = BitVec.ofNat 32 ((l.val + (tb.val * 3200 + off + 1)) * 256) := by
    show (BitVec.ofNat 32 l.val + (BitVec.ofNat 32 tb.val * BitVec.ofNat 32 3200 + BitVec.ofNat 32 off + BitVec.ofNat 32 1)) * BitVec.ofNat 32 256 = _
    rw [← BitVec.ofNat_mul, ← BitVec.ofNat_add, ← BitVec.ofNat_add, ← BitVec.ofNat_add, ← BitVec.ofNat_mul]
  have hl := l.isLt
  have htb := tb.isLt
  rw [e, sitofp_small _ (by omega), ← EReal.coe_one, div_real _ _ (by positivity)]
  congr 1
  rw [one_div]
  congr 1
  push_cast
  ring

/-- Time `j` of block `tb`. -/
def tm (tb : Fin 5) (j : Fin 3200) : Fin 16000 := ⟨3200 * tb.val + j.val, by have := tb.isLt; have := j.isLt; omega⟩
/-- Channel `r` of the first half. -/
def lo (r : Fin 128) : Fin 256 := ⟨r.val, r.isLt.trans (by decide)⟩
/-- Channel `r` of the second half. -/
def hi (r : Fin 128) : Fin 256 := ⟨128 + r.val, by have := r.isLt; omega⟩
/-- A sum over the channels, cut in its two halves. -/
theorem sum_halves (f : Fin 256 → ℝ) : ∑ ch, f ch = ∑ r, f (lo r) + ∑ r, f (hi r) := by
  have h := Fin.sum_univ_add (a := 128) (b := 128) f
  exact h

section Core
variable (X : S8x256x16000.Idx → EReal) (W : S1x256x1.Idx → EReal)

/-- The kernel's arithmetic at one entry, from the sums, is the normalised and weighted entry. -/
theorem core (b : Fin 8) (ch : Fin 256) (t : Fin 16000) (w x S Q C : EReal) (hw : w = W (ix3 0 ch 0)) (hx : x = ((xr X b ch t : ℝ) : EReal))
    (hS : S = ((sm X b (t.val + 1) : ℝ) : EReal)) (hQ : Q = ((sq X b (t.val + 1) : ℝ) : EReal)) (hC : C = (((((t.val : ℝ) + 1) * 256)⁻¹ : ℝ) : EReal)) :
    w * ((x - S * C) * Ideal.rsqrt (Q * C - S * C * (S * C) + Ideal.ofBits .f32 0x358637BD#32)) = outAt X W b ch t := by
  have h1 : S * C = ((mean X b t.val : ℝ) : EReal) := by rw [hS, hC, ← EReal.coe_mul, mean, div_eq_mul_inv]
  have h2 : Q * C - ((mean X b t.val : ℝ) : EReal) * ((mean X b t.val : ℝ) : EReal) = ((var X b t.val : ℝ) : EReal) := by
    rw [hQ, hC, ← EReal.coe_mul, ← EReal.coe_mul, ← EReal.coe_sub, var, div_eq_mul_inv]
  rw [h1, h2, ofBits_eps, ← EReal.coe_add, rsqrt_real _ (var_eps_pos X b t.val t.isLt), hx, hw, ← EReal.coe_sub, ← EReal.coe_mul, outAt]

variable (b : Fin 8) (tb : Fin 5)
  (x0 x1 : Vec Ideal S1x1x128x3200 .f32) (r5 : Vec Ideal S8x128 .bf16) (r4 : Vec Ideal S640x640 .bf16) (wr0 wr1 : Vec Ideal S1x128x128 .f32) (p q : Ideal .f32)
  (h0 : ∀ r j, x0 (ix4 0 0 r j) = ((xr X b (lo r) (tm tb j) : ℝ) : EReal)) (h1 : ∀ r j, x1 (ix4 0 0 r j) = ((xr X b (hi r) (tm tb j) : ℝ) : EReal))
  (hr5 : ∀ i j, r5 (ix2 i j) = (1 : EReal)) (hr4 : ∀ i j : Fin 640, r4 (ix2 i j) = if i.val ≤ j.val then (1 : EReal) else 0)
  (hw0 : ∀ r j, wr0 (ix3 0 r j) = W (ix3 0 (lo r) 0)) (hw1 : ∀ r j, wr1 (ix3 0 r j) = W (ix3 0 (hi r) 0))
  (hp : p = ((sm X b (3200 * tb.val) : ℝ) : EReal)) (hq : q = ((sq X b (3200 * tb.val) : ℝ) : EReal))

/-- The channel sums of a block. -/
theorem cs_block (j : Fin 3200) : cs X b (3200 * tb.val + j.val) = ∑ r, xr X b (lo r) (tm tb j) + ∑ r, xr X b (hi r) (tm tb j) := by
  exact (dif_pos (tm tb j).isLt).trans (sum_halves fun ch => xr X b ch (tm tb j))
/-- The channel sums of squares of a block. -/
theorem cq_block (j : Fin 3200) : cq X b (3200 * tb.val + j.val)
    = ∑ r, xr X b (lo r) (tm tb j) * xr X b (lo r) (tm tb j) + ∑ r, xr X b (hi r) (tm tb j) * xr X b (hi r) (tm tb j) := by
  exact (dif_pos (tm tb j).isLt).trans (sum_halves fun ch => xr X b ch (tm tb j) * xr X b ch (tm tb j))

/-- A running sum within a sub-block and what came before it. -/
theorem sm_step (off n : ℕ) : ((∑ i ∈ Finset.range n, cs X b (3200 * tb.val + (off + i)) : ℝ) : EReal) + ((sm X b (3200 * tb.val + off) : ℝ) : EReal)
    = ((sm X b (3200 * tb.val + (off + n)) : ℝ) : EReal) := by
  rw [← EReal.coe_add, sm, sm, ← add_assoc, Finset.sum_range_add _ (3200 * tb.val + off) n, add_comm]
  simp only [add_assoc]
/-- The same for the squares. -/
theorem sq_step (off n : ℕ) : ((∑ i ∈ Finset.range n, cq X b (3200 * tb.val + (off + i)) : ℝ) : EReal) + ((sq X b (3200 * tb.val + off) : ℝ) : EReal)
    = ((sq X b (3200 * tb.val + (off + n)) : ℝ) : EReal) := by
  rw [← EReal.coe_add, sq, sq, ← add_assoc, Finset.sum_range_add _ (3200 * tb.val + off) n, add_comm]
  simp only [add_assoc]

include h0 h1 hr5 hr4
/-- The sums up to each lane of sub-block 0, from the carried value. -/
theorem sum0_at (a : Ideal .f32) (ha : a = ((sm X b (3200 * tb.val + 0) : ℝ) : EReal)) (l : Fin 640) :
    k0_pay6 (sums x0 x1 r5 r4) a (ix2 0 l) = ((sm X b (3200 * tb.val + (0 + (l.val + 1))) : ℝ) : EReal) := by
  have e : k0_pay6 (sums x0 x1 r5 r4) a (ix2 0 l) = (sums x0 x1 r5 r4 (ix2 0 l) + a : EReal) := by pointwise [k0_pay6]
  rw [e, sums_row0 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sm_step X b tb 0 (l.val + 1)
/-- The sums of squares up to each lane of sub-block 0, from the carried value. -/
theorem sqs0_at (a : Ideal .f32) (ha : a = ((sq X b (3200 * tb.val + 0) : ℝ) : EReal)) (l : Fin 640) :
    k0_pay7 (sums x0 x1 r5 r4) a (ix2 0 l) = ((sq X b (3200 * tb.val + (0 + (l.val + 1))) : ℝ) : EReal) := by
  have e : k0_pay7 (sums x0 x1 r5 r4) a (ix2 0 l) = (sums x0 x1 r5 r4 (ix2 5 l) + a : EReal) := by pointwise [k0_pay7]
  rw [e, sums_row5 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sq_step X b tb 0 (l.val + 1)
/-- The sums up to each lane of sub-block 1, from the carried value. -/
theorem sum1_at (a : Ideal .f32) (ha : a = ((sm X b (3200 * tb.val + 640) : ℝ) : EReal)) (l : Fin 640) :
    k0_pay16 (sums x0 x1 r5 r4) a (ix2 0 l) = ((sm X b (3200 * tb.val + (640 + (l.val + 1))) : ℝ) : EReal) := by
  have e : k0_pay16 (sums x0 x1 r5 r4) a (ix2 0 l) = (sums x0 x1 r5 r4 (ix2 1 l) + a : EReal) := by pointwise [k0_pay16]
  rw [e, sums_row1 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sm_step X b tb 640 (l.val + 1)
/-- The sums of squares up to each lane of sub-block 1, from the carried value. -/
theorem sqs1_at (a : Ideal .f32) (ha : a = ((sq X b (3200 * tb.val + 640) : ℝ) : EReal)) (l : Fin 640) :
    k0_pay17 (sums x0 x1 r5 r4) a (ix2 0 l) = ((sq X b (3200 * tb.val + (640 + (l.val + 1))) : ℝ) : EReal) := by
  have e : k0_pay17 (sums x0 x1 r5 r4) a (ix2 0 l) = (sums x0 x1 r5 r4 (ix2 6 l) + a : EReal) := by pointwise [k0_pay17]
  rw [e, sums_row6 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sq_step X b tb 640 (l.val + 1)
/-- The sums up to each lane of sub-block 2, from the carried value. -/
theorem sum2_at (a : Ideal .f32) (ha : a = ((sm X b (3200 * tb.val + 1280) : ℝ) : EReal)) (l : Fin 640) :
    k0_pay27 (sums x0 x1 r5 r4) a (ix2 0 l) = ((sm X b (3200 * tb.val + (1280 + (l.val + 1))) : ℝ) : EReal) := by
  have e : k0_pay27 (sums x0 x1 r5 r4) a (ix2 0 l) = (sums x0 x1 r5 r4 (ix2 2 l) + a : EReal) := by pointwise [k0_pay27]
  rw [e, sums_row2 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sm_step X b tb 1280 (l.val + 1)
/-- The sums of squares up to each lane of sub-block 2, from the carried value. -/
theorem sqs2_at (a : Ideal .f32) (ha : a = ((sq X b (3200 * tb.val + 1280) : ℝ) : EReal)) (l : Fin 640) :
    k0_pay28 (sums x0 x1 r5 r4) a (ix2 0 l) = ((sq X b (3200 * tb.val + (1280 + (l.val + 1))) : ℝ) : EReal) := by
  have e : k0_pay28 (sums x0 x1 r5 r4) a (ix2 0 l) = (sums x0 x1 r5 r4 (ix2 7 l) + a : EReal) := by pointwise [k0_pay28]
  rw [e, sums_row7 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sq_step X b tb 1280 (l.val + 1)
/-- The sums up to each lane of sub-block 3, from the carried value. -/
theorem sum3_at (a : Ideal .f32) (ha : a = ((sm X b (3200 * tb.val + 1920) : ℝ) : EReal)) (l : Fin 640) :
    k0_pay37 (sums x0 x1 r5 r4) a (ix2 0 l) = ((sm X b (3200 * tb.val + (1920 + (l.val + 1))) : ℝ) : EReal) := by
  have e : k0_pay37 (sums x0 x1 r5 r4) a (ix2 0 l) = (sums x0 x1 r5 r4 (ix2 3 l) + a : EReal) := by pointwise [k0_pay37]
  rw [e, sums_row3 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sm_step X b tb 1920 (l.val + 1)
/-- The sums of squares up to each lane of sub-block 3, from the carried value. -/
theorem sqs3_at (a : Ideal .f32) (ha : a = ((sq X b (3200 * tb.val + 1920) : ℝ) : EReal)) (l : Fin 640) :
    k0_pay38 (sums x0 x1 r5 r4) a (ix2 0 l) = ((sq X b (3200 * tb.val + (1920 + (l.val + 1))) : ℝ) : EReal) := by
  have e : k0_pay38 (sums x0 x1 r5 r4) a (ix2 0 l) = (sums x0 x1 r5 r4 (ix2 8 l) + a : EReal) := by pointwise [k0_pay38]
  rw [e, sums_row8 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sq_step X b tb 1920 (l.val + 1)
/-- The sums up to each lane of sub-block 4, from the carried value. -/
theorem sum4_at (a : Ideal .f32) (ha : a = ((sm X b (3200 * tb.val + 2560) : ℝ) : EReal)) (l : Fin 640) :
    k0_pay46 (sums x0 x1 r5 r4) a (ix2 0 l) = ((sm X b (3200 * tb.val + (2560 + (l.val + 1))) : ℝ) : EReal) := by
  have e : k0_pay46 (sums x0 x1 r5 r4) a (ix2 0 l) = (sums x0 x1 r5 r4 (ix2 4 l) + a : EReal) := by pointwise [k0_pay46]
  rw [e, sums_row4 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sm_step X b tb 2560 (l.val + 1)
/-- The sums of squares up to each lane of sub-block 4, from the carried value. -/
theorem sqs4_at (a : Ideal .f32) (ha : a = ((sq X b (3200 * tb.val + 2560) : ℝ) : EReal)) (l : Fin 640) :
    k0_pay47 (sums x0 x1 r5 r4) a (ix2 0 l) = ((sq X b (3200 * tb.val + (2560 + (l.val + 1))) : ℝ) : EReal) := by
  have e : k0_pay47 (sums x0 x1 r5 r4) a (ix2 0 l) = (sums x0 x1 r5 r4 (ix2 9 l) + a : EReal) := by pointwise [k0_pay47]
  rw [e, sums_row9 x0 x1 r5 r4 (fun r j => xr X b (lo r) (tm tb j)) (fun r j => xr X b (hi r) (tm tb j)) h0 h1 hr5 hr4 (fun n => cs X b (3200 * tb.val + n)) (fun n => cq X b (3200 * tb.val + n)) (cs_block X b tb) (cq_block X b tb), ha]
  exact sq_step X b tb 2560 (l.val + 1)
include hp hq
/-- The carried sum after sub-block 0. -/
theorem ca1_at : ca1 x0 x1 r5 r4 p = ((sm X b (3200 * tb.val + 640) : ℝ) : EReal) := by
  have e : ca1 x0 x1 r5 r4 p = k0_pay6 (sums x0 x1 r5 r4) p (ix2 0 639) := by
    unfold ca1
    pointwise [k0_pay8]
  rw [e]
  exact sum0_at X b tb x0 x1 r5 r4 h0 h1 hr5 hr4 _ hp 639
/-- The carried sum of squares after sub-block 0. -/
theorem cb1_at : cb1 x0 x1 r5 r4 q = ((sq X b (3200 * tb.val + 640) : ℝ) : EReal) := by
  have e : cb1 x0 x1 r5 r4 q = k0_pay7 (sums x0 x1 r5 r4) q (ix2 0 639) := by
    unfold cb1
    pointwise [k0_pay9]
  rw [e]
  exact sqs0_at X b tb x0 x1 r5 r4 h0 h1 hr5 hr4 _ hq 639
/-- The carried sum after sub-block 1. -/
theorem ca2_at : ca2 x0 x1 r5 r4 p = ((sm X b (3200 * tb.val + 1280) : ℝ) : EReal) := by
  have e : ca2 x0 x1 r5 r4 p = k0_pay16 (sums x0 x1 r5 r4) (ca1 x0 x1 r5 r4 p) (ix2 0 639) := by
    unfold ca2
    pointwise [k0_pay18]
  rw [e]
  exact sum1_at X b tb x0 x1 r5 r4 h0 h1 hr5 hr4 _ (ca1_at X b tb x0 x1 r5 r4 p q h0 h1 hr5 hr4 hp hq) 639
/-- The carried sum of squares after sub-block 1. -/
theorem cb2_at : cb2 x0 x1 r5 r4 q = ((sq X b (3200 * tb.val + 1280) : ℝ) : EReal) := by
  have e : cb2 x0 x1 r5 r4 q = k0_pay17 (sums x0 x1 r5 r4) (cb1 x0 x1 r5 r4 q) (ix2 0 639) := by
    unfold cb2
    pointwise [k0_pay19]
  rw [e]
  exact sqs1_at X b tb x0 x1 r5 r4 h0 h1 hr5 hr4 _ (cb1_at X b tb x0 x1 r5 r4 p q h0 h1 hr5 hr4 hp hq) 639
/-- The carried sum after sub-block 2. -/
theorem ca3_at : ca3 x0 x1 r5 r4 p = ((sm X b (3200 * tb.val + 1920) : ℝ) : EReal) := by
  have e : ca3 x0 x1 r5 r4 p = k0_pay27 (sums x0 x1 r5 r4) (ca2 x0 x1 r5 r4 p) (ix2 0 639) := by
    unfold ca3
    pointwise [k0_pay29]
  rw [e]
  exact sum2_at X b tb x0 x1 r5 r4 h0 h1 hr5 hr4 _ (ca2_at X b tb x0 x1 r5 r4 p q h0 h1 hr5 hr4 hp hq) 639
/-- The carried sum of squares after sub-block 2. -/
theorem cb3_at : cb3 x0 x1 r5 r4 q = ((sq X b (3200 * tb.val + 1920) : ℝ) : EReal) := by
  have e : cb3 x0 x1 r5 r4 q = k0_pay28 (sums x0 x1 r5 r4) (cb2 x0 x1 r5 r4 q) (ix2 0 639) := by
    unfold cb3
    pointwise [k0_pay30]
  rw [e]
  exact sqs2_at X b tb x0 x1 r5 r4 h0 h1 hr5 hr4 _ (cb2_at X b tb x0 x1 r5 r4 p q h0 h1 hr5 hr4 hp hq) 639
/-- The carried sum after sub-block 3. -/
theorem ca4_at : ca4 x0 x1 r5 r4 p = ((sm X b (3200 * tb.val + 2560) : ℝ) : EReal) := by
  have e : ca4 x0 x1 r5 r4 p = k0_pay37 (sums x0 x1 r5 r4) (ca3 x0 x1 r5 r4 p) (ix2 0 639) := by
    unfold ca4
    pointwise [k0_pay39]
  rw [e]
  exact sum3_at X b tb x0 x1 r5 r4 h0 h1 hr5 hr4 _ (ca3_at X b tb x0 x1 r5 r4 p q h0 h1 hr5 hr4 hp hq) 639
/-- The carried sum of squares after sub-block 3. -/
theorem cb4_at : cb4 x0 x1 r5 r4 q = ((sq X b (3200 * tb.val + 2560) : ℝ) : EReal) := by
  have e : cb4 x0 x1 r5 r4 q = k0_pay38 (sums x0 x1 r5 r4) (cb3 x0 x1 r5 r4 q) (ix2 0 639) := by
    unfold cb4
    pointwise [k0_pay40]
  rw [e]
  exact sqs3_at X b tb x0 x1 r5 r4 h0 h1 hr5 hr4 _ (cb3_at X b tb x0 x1 r5 r4 p q h0 h1 hr5 hr4 hp hq) 639
/-- The carried sum after sub-block 4. -/
theorem ca5_at : ca5 x0 x1 r5 r4 p = ((sm X b (3200 * tb.val + 3200) : ℝ) : EReal) := by
  have e : ca5 x0 x1 r5 r4 p = k0_pay46 (sums x0 x1 r5 r4) (ca4 x0 x1 r5 r4 p) (ix2 0 639) := by
    unfold ca5
    pointwise [k0_pay48]
  rw [e]
  exact sum4_at X b tb x0 x1 r5 r4 h0 h1 hr5 hr4 _ (ca4_at X b tb x0 x1 r5 r4 p q h0 h1 hr5 hr4 hp hq) 639
/-- The carried sum of squares after sub-block 4. -/
theorem cb5_at : cb5 x0 x1 r5 r4 q = ((sq X b (3200 * tb.val + 3200) : ℝ) : EReal) := by
  have e : cb5 x0 x1 r5 r4 q = k0_pay47 (sums x0 x1 r5 r4) (cb4 x0 x1 r5 r4 q) (ix2 0 639) := by
    unfold cb5
    pointwise [k0_pay49]
  rw [e]
  exact sqs4_at X b tb x0 x1 r5 r4 h0 h1 hr5 hr4 _ (cb4_at X b tb x0 x1 r5 r4 p q h0 h1 hr5 hr4 hp hq) 639
include hw0 in
/-- What sub-block 0 stores of the first half of the channels. -/
theorem t00_at (r : Fin 128) (l : Fin 640) :
    t00 (BitVec.ofNat 32 tb.val) x0 x1 r5 r4 wr0 p q (ix4 0 0 r l) = outAt X W b (lo r) (tm tb ⟨l.val, l.isLt.trans (by decide)⟩) := by
  unfold t00
  pointwise [k0_pay13, k0_pay11, k0_pay12, k0_pay10, k0_pay1, lanes]
  refine core X W b (lo r) (tm tb ⟨l.val, l.isLt.trans (by decide)⟩) _ _ _ _ _ (pay4_at wr0 (fun r => W (ix3 0 (lo r) 0)) hw0 r l) ?_ ((sum0_at X b tb x0 x1 r5 r4 h0 h1 hr5 hr4 _ hp l).trans (by rw [Nat.zero_add]; rfl)) ((sqs0_at X b tb x0 x1 r5 r4 h0 h1 hr5 hr4 _ hq l).trans (by rw [Nat.zero_add]; rfl)) ((cnt_at tb 0 l (by decide)).trans (by rw [Nat.zero_add]; rfl))
  exact h0 r _
include hw1 in
/-- What sub-block 0 stores of the second half of the channels. -/
theorem t01_at (r : Fin 128) (l : Fin 640) :
    t01 (BitVec.ofNat 32 tb.val) x0 x1 r5 r4 wr1 p q (ix4 0 0 r l) = outAt X W b (hi r) (tm tb ⟨l.val, l.isLt.trans (by decide)⟩) := by
  unfold t01
  pointwise [k0_pay15, k0_pay12, k0_pay14, k0_pay11, k0_pay10, k0_pay2, lanes]
  refine core X W b (hi r) (tm tb ⟨l.val, l.isLt.trans (by decide)⟩) _ _ _ _ _ (pay5_at wr1 (fun r => W (ix3 0 (hi r) 0)) hw1 r l) ?_ ((sum0_at X b tb x0 x1 r5 r4 h0 h1 hr5 hr4 _ hp l).trans (by rw [Nat.zero_add]; rfl)) ((sqs0_at X b tb x0 x1 r5 r4 h0 h1 hr5 hr4 _ hq l).trans (by rw [Nat.zero_add]; rfl)) ((cnt_at tb 0 l (by decide)).trans (by rw [Nat.zero_add]; rfl))
  exact h1 r _
include hw0 in
/-- What sub-block 1 stores of the first half of the channels. -/
theorem t10_at (r : Fin 128) (l : Fin 640) :
    t10 (BitVec.ofNat 32 tb.val) x0 x1 r5 r4 wr0 p q (ix4 0 0 r l) = outAt X W b (lo r) (tm tb ⟨640 + l.val, by have := l.isLt; omega⟩) := by
  unfold t10
  pointwise [k0_pay23, k0_pay21, k0_pay22, k0_pay20, k0_pay1, lanes]
  refine core X W b (lo r) (tm tb ⟨640 + l.val, by have := l.isLt; omega⟩) _ _ _ _ _ (pay4_at wr0 (fun r => W (ix3 0 (lo r) 0)) hw0 r l) ?_ ((sum1_at X b tb x0 x1 r5 r4 h0 h1 hr5 hr4 _ (ca1_at X b tb x0 x1 r5 r4 p q h0 h1 hr5 hr4 hp hq) l)) ((sqs1_at X b tb x0 x1 r5 r4 h0 h1 hr5 hr4 _ (cb1_at X b tb x0 x1 r5 r4 p q h0 h1 hr5 hr4 hp hq) l)) ((cnt_at tb 640 l (by decide)))
  exact h0 r _
include hw1 in
/-- What sub-block 1 stores of the second half of the channels. -/
theorem t11_at (r : Fin 128) (l : Fin 640) :
    t11 (BitVec.ofNat 32 tb.val) x0 x1 r5 r4 wr1 p q (ix4 0 0 r l) = outAt X W b (hi r) (tm tb ⟨640 + l.val, by have := l.isLt; omega⟩) := by
  unfold t11
  pointwise [k0_pay26, k0_pay22, k0_pay24, k0_pay25, k0_pay21, k0_pay20, k0_pay2, lanes]
  refine core X W b (hi r) (tm tb ⟨640 + l.val, by have := l.isLt; omega⟩) _ _ _ _ _ (pay5_at wr1 (fun r => W (ix3 0 (hi r) 0)) hw1 r l) ?_ ((sum1_at X b tb x0 x1 r5 r4 h0 h1 hr5 hr4 _ (ca1_at X b tb x0 x1 r5 r4 p q h0 h1 hr5 hr4 hp hq) l)) ((sqs1_at X b tb x0 x1 r5 r4 h0 h1 hr5 hr4 _ (cb1_at X b tb x0 x1 r5 r4 p q h0 h1 hr5 hr4 hp hq) l)) ((cnt_at tb 640 l (by decide)))
  exact h1 r _
include hw0 in
/-- What sub-block 2 stores of the first half of the channels. -/
theorem t20_at (r : Fin 128) (l : Fin 640) :
    t20 (BitVec.ofNat 32 tb.val) x0 x1 r5 r4 wr0 p q (ix4 0 0 r l) = outAt X W b (lo r) (tm tb ⟨1280 + l.val, by have := l.isLt; omega⟩) := by
  unfold t20
  pointwise [k0_pay34, k0_pay32, k0_pay33, k0_pay31, k0_pay1, lanes]
  refine core X W b (lo r) (tm tb ⟨1280 + l.val, by have := l.isLt; omega⟩) _ _ _ _ _ (pay4_at wr0 (fun r => W (ix3 0 (lo r) 0)) hw0 r l) ?_ ((sum2_at X b tb x0 x1 r5 r4 h0 h1 hr5 hr4 _ (ca2_at X b tb x0 x1 r5 r4 p q h0 h1 hr5 hr4 hp hq) l)) ((sqs2_at X b tb x0 x1 r5 r4 h0 h1 hr5 hr4 _ (cb2_at X b tb x0 x1 r5 r4 p q h0 h1 hr5 hr4 hp hq) l)) ((cnt_at tb 1280 l (by decide)))
  exact h0 r _
include hw1 in
/-- What sub-block 2 stores of the second half of the channels. -/
theorem t21_at (r : Fin 128) (l : Fin 640) :
    t21 (BitVec.ofNat 32 tb.val) x0 x1 r5 r4 wr1 p q (ix4 0 0 r l) = outAt X W b (hi r) (tm tb ⟨1280 + l.val, by have := l.isLt; omega⟩) := by
  unfold t21
  pointwise [k0_pay36, k0_pay32, k0_pay33, k0_pay35, k0_pay31, k0_pay2, lanes]
  refine core X W b (hi r) (tm tb ⟨1280 + l.val, by have := l.isLt; omega⟩) _ _ _ _ _ (pay5_at wr1 (fun r => W (ix3 0 (hi r) 0)) hw1 r l) ?_ ((sum2_at X b tb x0 x1 r5 r4 h0 h1 hr5 hr4 _ (ca2_at X b tb x0 x1 r5 r4 p q h0 h1 hr5 hr4 hp hq) l)) ((sqs2_at X b tb x0 x1 r5 r4 h0 h1 hr5 hr4 _ (cb2_at X b tb x0 x1 r5 r4 p q h0 h1 hr5 hr4 hp hq) l)) ((cnt_at tb 1280 l (by decide)))
  exact h1 r _
include hw0 in
/-- What sub-block 3 stores of the first half of the channels. -/
theorem t30_at (r : Fin 128) (l : Fin 640) :
    t30 (BitVec.ofNat 32 tb.val) x0 x1 r5 r4 wr0 p q (ix4 0 0 r l) = outAt X W b (lo r) (tm tb ⟨1920 + l.val, by have := l.isLt; omega⟩) := by
  unfold t30
  pointwise [k0_pay44, k0_pay42, k0_pay43, k0_pay41, k0_pay1, lanes]
  refine core X W b (lo r) (tm tb ⟨1920 + l.val, by have := l.isLt; omega⟩) _ _ _ _ _ (pay4_at wr0 (fun r => W (ix3 0 (lo r) 0)) hw0 r l) ?_ ((sum3_at X b tb x0 x1 r5 r4 h0 h1 hr5 hr4 _ (ca3_at X b tb x0 x1 r5 r4 p q h0 h1 hr5 hr4 hp hq) l)) ((sqs3_at X b tb x0 x1 r5 r4 h0 h1 hr5 hr4 _ (cb3_at X b tb x0 x1 r5 r4 p q h0 h1 hr5 hr4 hp hq) l)) ((cnt_at tb 1920 l (by decide)))
  exact h0 r _
include hw1 in
/-- What sub-block 3 stores of the second half of the channels. -/
theorem t31_at (r : Fin 128) (l : Fin 640) :
    t31 (BitVec.ofNat 32 tb.val) x0 x1 r5 r4 wr1 p q (ix4 0 0 r l) = outAt X W b (hi r) (tm tb ⟨1920 + l.val, by have := l.isLt; omega⟩) := by
  unfold t31
  pointwise [k0_pay45, k0_pay42, k0_pay43, k0_pay41, k0_pay2, lanes]
  refine core X W b (hi r) (tm tb ⟨1920 + l.val, by have := l.isLt; omega⟩) _ _ _ _ _ (pay5_at wr1 (fun r => W (ix3 0 (hi r) 0)) hw1 r l) ?_ ((sum3_at X b tb x0 x1 r5 r4 h0 h1 hr5 hr4 _ (ca3_at X b tb x0 x1 r5 r4 p q h0 h1 hr5 hr4 hp hq) l)) ((sqs3_at X b tb x0 x1 r5 r4 h0 h1 hr5 hr4 _ (cb3_at X b tb x0 x1 r5 r4 p q h0 h1 hr5 hr4 hp hq) l)) ((cnt_at tb 1920 l (by decide)))
  exact h1 r _
include hw0 in
/-- What sub-block 4 stores of the first half of the channels. -/
theorem t40_at (r : Fin 128) (l : Fin 640) :
    t40 (BitVec.ofNat 32 tb.val) x0 x1 r5 r4 wr0 p q (ix4 0 0 r l) = outAt X W b (lo r) (tm tb ⟨2560 + l.val, by have := l.isLt; omega⟩) := by
  unfold t40
  pointwise [k0_pay53, k0_pay51, k0_pay52, k0_pay50, k0_pay1, lanes]
  refine core X W b (lo r) (tm tb ⟨2560 + l.val, by have := l.isLt; omega⟩) _ _ _ _ _ (pay4_at wr0 (fun r => W (ix3 0 (lo r) 0)) hw0 r l) ?_ ((sum4_at X b tb x0 x1 r5 r4 h0 h1 hr5 hr4 _ (ca4_at X b tb x0 x1 r5 r4 p q h0 h1 hr5 hr4 hp hq) l)) ((sqs4_at X b tb x0 x1 r5 r4 h0 h1 hr5 hr4 _ (cb4_at X b tb x0 x1 r5 r4 p q h0 h1 hr5 hr4 hp hq) l)) ((cnt_at tb 2560 l (by decide)))
  exact h0 r _
include hw1 in
/-- What sub-block 4 stores of the second half of the channels. -/
theorem t41_at (r : Fin 128) (l : Fin 640) :
    t41 (BitVec.ofNat 32 tb.val) x0 x1 r5 r4 wr1 p q (ix4 0 0 r l) = outAt X W b (hi r) (tm tb ⟨2560 + l.val, by have := l.isLt; omega⟩) := by
  unfold t41
  pointwise [k0_pay54, k0_pay51, k0_pay52, k0_pay50, k0_pay2, lanes]
  refine core X W b (hi r) (tm tb ⟨2560 + l.val, by have := l.isLt; omega⟩) _ _ _ _ _ (pay5_at wr1 (fun r => W (ix3 0 (hi r) 0)) hw1 r l) ?_ ((sum4_at X b tb x0 x1 r5 r4 h0 h1 hr5 hr4 _ (ca4_at X b tb x0 x1 r5 r4 p q h0 h1 hr5 hr4 hp hq) l)) ((sqs4_at X b tb x0 x1 r5 r4 h0 h1 hr5 hr4 _ (cb4_at X b tb x0 x1 r5 r4 p q h0 h1 hr5 hr4 hp hq) l)) ((cnt_at tb 2560 l (by decide)))
  exact h1 r _

end Core
end Cert.KernelIdeal.Hand
end
-- ==== Proof.IHost.lean ====
module

public import proofs.«01_k».proof.Proof.ILaunch
public import proofs.«01_k».proof.Proof.ITiles
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open scoped BigOperators

variable (m : (ℓ : Loc nD τ sig) → Buf (Elt Ideal) ℓ)

/-- The three arguments as arrays. -/
abbrev Xm (c : Dev nD) : FVec Ideal S8x256x16000 .f32 := m ((c : Thread nD τ).loc main_arg0)
abbrev Wm (c : Dev nD) : FVec Ideal S1x256x1 .f32 := m ((c : Thread nD τ).loc main_arg1)

/-- The launch finds the input reshaped in two halves of the channels. -/
theorem V_v0 (c : Dev nD) : V m c main_v0 = (shapeCast S8x2x128x16000 (Xm m c) shapeCasts_S8x256x16000_S8x2x128x16000 : FVec Ideal S8x2x128x16000 .f32) := by
  simp only [V, V0, hostOps0, hostOps0_1, hostOps0_2, StableHlo.TRef.binary, StableHlo.TRef.nullary, StableHlo.TRef.unary, StableHlo.TRef.ternary, StableHlo.TRef.toBuf, StableHlo.TRef.ofBuf, cast_eq, List.flatten_cons, List.flatten_nil, List.append_nil, List.cons_append, List.nil_append]
  after_results_simp
  rfl

/-- The launch finds the triangle as the host computes it. -/
theorem V_v2 (c : Dev nD) : V m c main_v2 = (select (cmpi .sge (addi (iotaInDim S640x640 32 0) (broadcastInDim S640x640 ![] bcast_S_S640x640 (constantI S_ 32 4294967295#32))) (iotaInDim S640x640 32 1))
    (broadcastInDim S640x640 ![] bcast_S_S640x640 (constant S_ .bf16 0x0000#16)) (broadcastInDim S640x640 ![] bcast_S_S640x640 (constant S_ .bf16 0x3F80#16)) : FVec Ideal S640x640 .bf16) := by
  simp only [V, V0, hostOps0, hostOps0_1, hostOps0_2, StableHlo.TRef.binary, StableHlo.TRef.nullary, StableHlo.TRef.unary, StableHlo.TRef.ternary, StableHlo.TRef.toBuf, StableHlo.TRef.ofBuf, cast_eq, List.flatten_cons, List.flatten_nil, List.append_nil, List.cons_append, List.nil_append]
  after_results_simp

/-- The launch finds the row of ones as the host computes it. -/
theorem V_v3 (c : Dev nD) : V m c main_v3 = (broadcastInDim S8x128 ![] bcast_S_S8x128 (constant S_ .bf16 0x3F80#16) : FVec Ideal S8x128 .bf16) := by
  simp only [V, V0, hostOps0, hostOps0_1, hostOps0_2, StableHlo.TRef.binary, StableHlo.TRef.nullary, StableHlo.TRef.unary, StableHlo.TRef.ternary, StableHlo.TRef.toBuf, StableHlo.TRef.ofBuf, cast_eq, List.flatten_cons, List.flatten_nil, List.append_nil, List.cons_append, List.nil_append]
  after_results_simp

/-- The launch finds the weights repeated along the lanes and cut in two halves. -/
theorem V_v5 (c : Dev nD) : V m c main_v5 = (shapeCast S2x128x128 (broadcastInDim S1x256x128 ![0, 1, 2] bcast_S1x256x1_S1x256x128_0_1_2 (Wm m c)) shapeCasts_S1x256x128_S2x128x128 : FVec Ideal S2x128x128 .f32) := by
  simp only [V, V0, hostOps0, hostOps0_1, hostOps0_2, StableHlo.TRef.binary, StableHlo.TRef.nullary, StableHlo.TRef.unary, StableHlo.TRef.ternary, StableHlo.TRef.toBuf, StableHlo.TRef.ofBuf, cast_eq, List.flatten_cons, List.flatten_nil, List.append_nil, List.cons_append, List.nil_append]
  after_results_simp
  rfl

/-- The input array, as the launch finds it, at an index. -/
theorem v0_at (c : Dev nD) (b : Fin 8) (h : Fin 2) (r : Fin 128) (t : Fin 16000) :
    (V m c main_v0 : FVec Ideal S8x2x128x16000 .f32) (ix4 b h r t) = Xm m c (ix3 b ⟨h.val * 128 + r.val, by have := h.isLt; have := r.isLt; omega⟩ t) := by
  rw [V_v0]
  pointwise

/-- The weights, as the launch finds them, at an index. -/
theorem v5_at (c : Dev nD) (h : Fin 2) (r j : Fin 128) :
    (V m c main_v5 : FVec Ideal S2x128x128 .f32) (ix3 h r j) = Wm m c (ix3 0 ⟨h.val * 128 + r.val, by have := h.isLt; have := r.isLt; omega⟩ 0) := by
  rw [V_v5]
  pointwise

/-- The row of ones, as the launch finds it, holds ones. -/
theorem v3_at (c : Dev nD) (i : Fin 8) (j : Fin 128) : (V m c main_v3 : FVec Ideal S8x128 .bf16) (ix2 i j) = (1 : EReal) := by
  rw [V_v3]
  pointwise

/-- The signed test `i - 1 ≥ j` of two small indices fails exactly when `i ≤ j`. -/
theorem sge_pred (i j : ℕ) (hi : i < 640) (hj : j < 640) :
    (BitVec.ofNat 32 j).sle (BitVec.ofNat 32 i + 4294967295#32) = !decide (i ≤ j) := by
  have h1 : (BitVec.ofNat 32 j).toInt = (j : ℤ) := toInt_small j (by omega)
  have h2 : (BitVec.ofNat 32 i + 4294967295#32).toInt = (i : ℤ) - 1 := by
    cases i with
    | zero => decide
    | succ n =>
      have e : BitVec.ofNat 32 (n + 1) + 4294967295#32 = BitVec.ofNat 32 n := by
        rw [BitVec.ofNat_add, BitVec.add_assoc, show (1#32 : BitVec 32) + 4294967295#32 = 0#32 from by decide, BitVec.add_zero]
      rw [e, toInt_small n (by omega)]
      push_cast
      ring
  rw [BitVec.sle, h1, h2]
  by_cases h : i ≤ j
  · have : ¬ ((j : ℤ) ≤ (i : ℤ) - 1) := by omega
    simp [h, this]
  · have : ((j : ℤ) ≤ (i : ℤ) - 1) := by omega
    simp [h, this]

/-- The triangle, as the launch finds it: one on and above the diagonal, zero below. -/
theorem v2_at (c : Dev nD) (i j : Fin 640) : (V m c main_v2 : FVec Ideal S640x640 .bf16) (ix2 i j) = if i.val ≤ j.val then (1 : EReal) else 0 := by
  rw [V_v2]
  pointwise
  have h := sge_pred i.val j.val i.isLt j.isLt
  simp only [IntOp.cmpi, IntOp.addi, Scalar.select, h]
  by_cases hij : i.val ≤ j.val <;> simp [hij]

/-- Window 2's block at the first point is its whole array: an index of the block is that index of the array. -/
theorem emb2 (y : S8x128.Idx) : (((cfg0.win 2).rect pt0).emb y : S8x128.Idx) = y := by
  funext a
  fin_cases a
  · exact Fin.ext (Pipeline.Window.rect_emb_val_of_index_zero (cfg0.win 2) pt0 0 rfl y)
  · exact Fin.ext (Pipeline.Window.rect_emb_val_of_index_zero (cfg0.win 2) pt0 1 rfl y)

/-- Read through window 2's block, an array is itself. -/
theorem rd2 (f : FVec Ideal S8x128 .bf16) (y : ((cfg0.win 2).xblock (cfg0.grid.coords pt0)).Idx) :
    ((cfg0.win 2).blk pt0).view.read (Elt Ideal) f y = f (((cfg0.win 2).rect pt0).emb y) := rfl

/-- The block that window 2 stages, at an index. -/
theorem iblk2_eq (c : Dev nD) (y : S8x128.Idx) : (iblk m c 2 pt0 : S8x128.Idx → EReal) y = (V m c main_v3 : FVec Ideal S8x128 .bf16) y :=
  (rd2 (V m c main_v3) y).trans (congrArg (V m c main_v3) (emb2 y))

/-- Window 1's block at the first point is its whole array: an index of the block is that index of the array. -/
theorem emb1 (y : S640x640.Idx) : (((cfg0.win 1).rect pt0).emb y : S640x640.Idx) = y := by
  funext a
  fin_cases a
  · exact Fin.ext (Pipeline.Window.rect_emb_val_of_index_zero (cfg0.win 1) pt0 0 rfl y)
  · exact Fin.ext (Pipeline.Window.rect_emb_val_of_index_zero (cfg0.win 1) pt0 1 rfl y)

/-- Read through window 1's block, an array is itself. -/
theorem rd1 (f : FVec Ideal S640x640 .bf16) (y : ((cfg0.win 1).xblock (cfg0.grid.coords pt0)).Idx) :
    ((cfg0.win 1).blk pt0).view.read (Elt Ideal) f y = f (((cfg0.win 1).rect pt0).emb y) := rfl

/-- The block that window 1 stages, at an index. -/
theorem iblk1_eq (c : Dev nD) (y : S640x640.Idx) : (iblk m c 1 pt0 : S640x640.Idx → EReal) y = (V m c main_v2 : FVec Ideal S640x640 .bf16) y :=
  (rd1 (V m c main_v2) y).trans (congrArg (V m c main_v2) (emb1 y))

/-- Window 0's block at the first point is its whole array: an index of the block is that index of the array. -/
theorem emb0 (y : S2x128x128.Idx) : (((cfg0.win 0).rect pt0).emb y : S2x128x128.Idx) = y := by
  funext a
  fin_cases a
  · exact Fin.ext (Pipeline.Window.rect_emb_val_of_index_zero (cfg0.win 0) pt0 0 rfl y)
  · exact Fin.ext (Pipeline.Window.rect_emb_val_of_index_zero (cfg0.win 0) pt0 1 rfl y)
  · exact Fin.ext (Pipeline.Window.rect_emb_val_of_index_zero (cfg0.win 0) pt0 2 rfl y)

/-- Read through window 0's block, an array is itself. -/
theorem rd0 (f : FVec Ideal S2x128x128 .f32) (y : ((cfg0.win 0).xblock (cfg0.grid.coords pt0)).Idx) :
    ((cfg0.win 0).blk pt0).view.read (Elt Ideal) f y = f (((cfg0.win 0).rect pt0).emb y) := rfl

/-- The block that window 0 stages, at an index. -/
theorem iblk0_eq (c : Dev nD) (y : S2x128x128.Idx) : (iblk m c 0 pt0 : S2x128x128.Idx → EReal) y = (V m c main_v5 : FVec Ideal S2x128x128 .f32) y :=
  (rd0 (V m c main_v5) y).trans (congrArg (V m c main_v5) (emb0 y))

/-- The load of the whole ones operand reads each entry in its place. -/
theorem idx_ones (y : S8x128.Idx) : (Rect.unit (s := S8x128) ![0, 0] S8x128.size inb_S8x128_S8x128_0_0).toLoadRect.idx y = y := by
  funext a; fin_cases a <;> exact Fin.ext (by simp [LoadRect.idx, Rect.unit])
/-- The load of the whole triangle reads each entry in its place. -/
theorem idx_tri (y : S640x640.Idx) : (Rect.unit (s := S640x640) ![0, 0] S640x640.size inb_S640x640_S640x640_0_0).toLoadRect.idx y = y := by
  funext a; fin_cases a <;> exact Fin.ext (by simp [LoadRect.idx, Rect.unit])
/-- The load of the first half of the weights. -/
theorem idx_w0 (r j : Fin 128) : (Rect.unit (s := S2x128x128) ![0, 0, 0] S1x128x128.size inb_S2x128x128_S1x128x128_0_0_0).toLoadRect.idx (ix3 (0 : Fin 1) r j) = (ix3 0 r j : S2x128x128.Idx) := by
  funext a; fin_cases a <;> exact Fin.ext (by simp [LoadRect.idx, Rect.unit])
/-- The load of the second half of the weights. -/
theorem idx_w1 (r j : Fin 128) : (Rect.unit (s := S2x128x128) ![1, 0, 0] S1x128x128.size inb_S2x128x128_S1x128x128_1_0_0).toLoadRect.idx (ix3 (0 : Fin 1) r j) = (ix3 1 r j : S2x128x128.Idx) := by
  funext a; fin_cases a <;> exact Fin.ext (by simp [LoadRect.idx, Rect.unit])

/-- The ones operand holds ones. -/
theorem ones_at (c : Dev nD) (i : Fin 8) (j : Fin 128) : onesm m c (ix2 i j) = (1 : EReal) := by
  rw [onesm, idx_ones]
  exact (iblk2_eq m c _).trans (v3_at m c i j)

/-- The triangle operand holds one on and above the diagonal and zero below it. -/
theorem trim_at (c : Dev nD) (i j : Fin 640) : trim m c (ix2 i j) = if i.val ≤ j.val then (1 : EReal) else 0 := by
  rw [trim, idx_tri]
  exact (iblk1_eq m c _).trans (v2_at m c i j)

/-- The first half of the weights. -/
theorem wt0_at (c : Dev nD) (r j : Fin 128) : wt0m m c (ix3 0 r j) = Wm m c (ix3 0 (lo r) 0) := by
  rw [wt0m, idx_w0]
  refine (iblk0_eq m c _).trans ((v5_at m c 0 r j).trans ?_)
  refine congrArg (fun q : Fin 256 => Wm m c (ix3 0 q 0)) (Fin.ext ?_)
  simp [lo]

/-- The second half of the weights. -/
theorem wt1_at (c : Dev nD) (r j : Fin 128) : wt1m m c (ix3 0 r j) = Wm m c (ix3 0 (hi r) 0) := by
  rw [wt1m, idx_w1]
  refine (iblk0_eq m c _).trans ((v5_at m c 1 r j).trans ?_)
  refine congrArg (fun q : Fin 256 => Wm m c (ix3 0 q 0)) (Fin.ext ?_)
  simp [hi]

end Cert.KernelIdeal.Hand
end
-- ==== Proof.IValue.lean ====
module

public import proofs.«01_k».proof.Proof.IHost

@[expose] public section

set_option maxRecDepth 16384

noncomputable section

namespace Cert.KernelIdeal.Hand

open Cert.KernelIdeal Cert.KernelIdeal.Gen
open Idealize.ShloMosaic Idealize.ShloMosaic.TcCoe Idealize.SL.Sem
open scoped BigOperators

/-! The value the kernel leaves: the carried sums by induction along a sequence, then every entry of the result. -/

/-- The batch entry of block `k`. -/
def bq (k : ℕ) : Fin 8 := ⟨k / 5 % 8, Nat.mod_lt _ (by decide)⟩
/-- The time block of block `k`. -/
def tq (k : ℕ) : Fin 5 := ⟨k % 5, Nat.mod_lt _ (by decide)⟩

/-- Choice number 0 of the five. -/
theorem pick0 {α : Type} (w0 w1 w2 w3 w4 : α) : pick w0 w1 w2 w3 w4 0 = w0 := rfl
/-- Choice number 1 of the five. -/
theorem pick1 {α : Type} (w0 w1 w2 w3 w4 : α) : pick w0 w1 w2 w3 w4 1 = w1 := rfl
/-- Choice number 2 of the five. -/
theorem pick2 {α : Type} (w0 w1 w2 w3 w4 : α) : pick w0 w1 w2 w3 w4 2 = w2 := rfl
/-- Choice number 3 of the five. -/
theorem pick3 {α : Type} (w0 w1 w2 w3 w4 : α) : pick w0 w1 w2 w3 w4 3 = w3 := rfl
/-- Choice number 4 of the five. -/
theorem pick4 {α : Type} (w0 w1 w2 w3 w4 : α) : pick w0 w1 w2 w3 w4 4 = w4 := rfl

section Value
variable (c : Dev nD) (XA : Buf (Elt Ideal) (xM.view.loc (c : Thread nD τ)))
  (r5 : Vec Ideal S8x128 .bf16) (r4 : Vec Ideal S640x640 .bf16) (wr0 wr1 : Vec Ideal S1x128x128 .f32)

/-- A half block of the input, at an index. -/
theorem xb_at (k : Fin 40) (h : Fin 2) (r : Fin 128) (j : Fin 3200) :
    xb c XA k h (ix4 0 0 r j) = (XA : FVec Ideal S8x2x128x16000 .f32) (ix4 (bq k.val) h r (tm (tq k.val) j)) := by
  refine (read_sq xM (blkOff k h) (blkOff_inb k h) (fun _ => rfl) squeezes_S1x1x128x3200_S128x3200 XA (ix2 r j)).trans ?_
  show xM.view.read (Elt Ideal) XA ((Rect.unit (s := S8x2x128x16000) (blkOff k h) S1x1x128x3200.size (blkOff_inb k h)).emb (ix4 (0 : Fin 1) (0 : Fin 1) r j)) = _
  have hz : (Rect.unit (s := S8x2x128x16000) (blkOff k h) S1x1x128x3200.size (blkOff_inb k h)).emb (ix4 (0 : Fin 1) (0 : Fin 1) r j)
      = (ix4 (bq k.val) h r (tm (tq k.val) j) : S8x2x128x16000.Idx) := by
    have hk := k.isLt
    funext a
    refine Fin.ext ?_
    rw [Rect.emb_apply]
    fin_cases a <;> simp [blkOff, bq, tq, tm] <;> omega
  rw [hz]
  rfl

variable (X : S8x256x16000.Idx → EReal) (W : S1x256x1.Idx → EReal)
  (hA0 : ∀ b r t, (XA : FVec Ideal S8x2x128x16000 .f32) (ix4 b 0 r t) = ((xr X b (lo r) t : ℝ) : EReal))
  (hA1 : ∀ b r t, (XA : FVec Ideal S8x2x128x16000 .f32) (ix4 b 1 r t) = ((xr X b (hi r) t : ℝ) : EReal))
  (hr5 : ∀ i j, r5 (ix2 i j) = (1 : EReal)) (hr4 : ∀ i j : Fin 640, r4 (ix2 i j) = if i.val ≤ j.val then (1 : EReal) else 0)
  (hw0 : ∀ r j, wr0 (ix3 0 r j) = W (ix3 0 (lo r) 0)) (hw1 : ∀ r j, wr1 (ix3 0 r j) = W (ix3 0 (hi r) 0))

/-- The first half of the channels of a block, as reals. -/
theorem xb0_at (hA0 : ∀ b r t, (XA : FVec Ideal S8x2x128x16000 .f32) (ix4 b 0 r t) = ((xr X b (lo r) t : ℝ) : EReal)) (k : Fin 40) (r : Fin 128) (j : Fin 3200) :
    xb c XA k 0 (ix4 0 0 r j) = ((xr X (bq k.val) (lo r) (tm (tq k.val) j) : ℝ) : EReal) := (xb_at c XA k 0 r j).trans (hA0 _ _ _)
/-- The second half. -/
theorem xb1_at (hA1 : ∀ b r t, (XA : FVec Ideal S8x2x128x16000 .f32) (ix4 b 1 r t) = ((xr X b (hi r) t : ℝ) : EReal)) (k : Fin 40) (r : Fin 128) (j : Fin 3200) :
    xb c XA k 1 (ix4 0 0 r j) = ((xr X (bq k.val) (hi r) (tm (tq k.val) j) : ℝ) : EReal) := (xb_at c XA k 1 r j).trans (hA1 _ _ _)

/-- The carry's starting value is zero. -/
theorem zf_zero : (zf : Ideal .f32) = ((0 : ℝ) : EReal) := (Ideal.ofBits_zero_f32).trans EReal.coe_zero.symm

include hA0 hA1 hr5 hr4 in
/-- The carried pair before block `k`: the sums over the part of its sequence before it. -/
theorem car_at : ∀ k : ℕ, k < 40 → (car c XA r5 r4 k).1 = ((sm X (bq k) (3200 * (tq k).val) : ℝ) : EReal) ∧ (car c XA r5 r4 k).2 = ((sq X (bq k) (3200 * (tq k).val) : ℝ) : EReal) := by
  have first (k : ℕ) (h : k % 5 = 0) : (car c XA r5 r4 k).1 = ((sm X (bq k) (3200 * (tq k).val) : ℝ) : EReal) ∧ (car c XA r5 r4 k).2 = ((sq X (bq k) (3200 * (tq k).val) : ℝ) : EReal) := by
    have e : 3200 * (tq k).val = 0 := by show 3200 * (k % 5) = 0; rw [h]
    rw [car_first c XA r5 r4 k h, e]
    exact ⟨zf_zero.trans (by simp [sm]), zf_zero.trans (by simp [sq])⟩
  intro k
  induction k with
  | zero => exact fun _ => first 0 rfl
  | succ k ih =>
    intro hk
    by_cases h : (k + 1) % 5 = 0
    · exact first _ h
    · obtain ⟨hp, hq⟩ := ih (by omega)
      have eb : bq (k + 1) = bq k := Fin.ext (by show (k + 1) / 5 % 8 = k / 5 % 8; omega)
      have et : 3200 * (tq (k + 1)).val = 3200 * (tq k).val + 3200 := by show 3200 * ((k + 1) % 5) = 3200 * (k % 5) + 3200; omega
      have ek : (Ring.bk 40 k).val = k := Ring.bk_val (by omega)
      have h0 := xb0_at c XA X hA0 (Ring.bk 40 k)
      have h1 := xb1_at c XA X hA1 (Ring.bk 40 k)
      rw [ek] at h0 h1
      rw [car_next c XA r5 r4 k h, eb, et]
      exact ⟨ca5_at X (bq k) (tq k) _ _ r5 r4 _ _ h0 h1 hr5 hr4 hp hq, cb5_at X (bq k) (tq k) _ _ r5 r4 _ _ h0 h1 hr5 hr4 hp hq⟩

include hA0 hA1 hr5 hr4 hw0 in
/-- What the sub-blocks of a block hold, first half of the channels. -/
theorem tile0_at (k : Fin 40) (q : ℕ) (hq5 : q < 5) (r : Fin 128) (l : Fin 640) (t : Fin 16000) (ht : t.val = 3200 * (k.val % 5) + 640 * q + l.val) :
    tile0 c XA r5 r4 wr0 k q (ix4 0 0 r l) = outAt X W (bq k.val) (lo r) t := by
  obtain ⟨hp, hq⟩ := car_at c XA r5 r4 X hA0 hA1 hr5 hr4 k.val k.isLt
  have h0 := xb0_at c XA X hA0 k
  have h1 := xb1_at c XA X hA1 k
  have hl := l.isLt
  rw [tile0]
  have hcase : q = 0 ∨ q = 1 ∨ q = 2 ∨ q = 3 ∨ q = 4 := by omega
  rcases hcase with h | h | h | h | h <;> subst h
  · rw [pick0]
    exact (t00_at X W (bq k.val) (tq k.val) _ _ r5 r4 wr0 _ _ h0 h1 hr5 hr4 hw0 hp hq r l).trans (congrArg (outAt X W (bq k.val) (lo r)) (Fin.ext (by rw [ht]; simp only [tm, tq]; omega)))
  · rw [pick1]
    exact (t10_at X W (bq k.val) (tq k.val) _ _ r5 r4 wr0 _ _ h0 h1 hr5 hr4 hw0 hp hq r l).trans (congrArg (outAt X W (bq k.val) (lo r)) (Fin.ext (by rw [ht]; simp only [tm, tq]; omega)))
  · rw [pick2]
    exact (t20_at X W (bq k.val) (tq k.val) _ _ r5 r4 wr0 _ _ h0 h1 hr5 hr4 hw0 hp hq r l).trans (congrArg (outAt X W (bq k.val) (lo r)) (Fin.ext (by rw [ht]; simp only [tm, tq]; omega)))
  · rw [pick3]
    exact (t30_at X W (bq k.val) (tq k.val) _ _ r5 r4 wr0 _ _ h0 h1 hr5 hr4 hw0 hp hq r l).trans (congrArg (outAt X W (bq k.val) (lo r)) (Fin.ext (by rw [ht]; simp only [tm, tq]; omega)))
  · rw [pick4]
    exact (t40_at X W (bq k.val) (tq k.val) _ _ r5 r4 wr0 _ _ h0 h1 hr5 hr4 hw0 hp hq r l).trans (congrArg (outAt X W (bq k.val) (lo r)) (Fin.ext (by rw [ht]; simp only [tm, tq]; omega)))
include hA0 hA1 hr5 hr4 hw1 in
/-- What the sub-blocks of a block hold, second half of the channels. -/
theorem tile1_at (k : Fin 40) (q : ℕ) (hq5 : q < 5) (r : Fin 128) (l : Fin 640) (t : Fin 16000) (ht : t.val = 3200 * (k.val % 5) + 640 * q + l.val) :
    tile1 c XA r5 r4 wr1 k q (ix4 0 0 r l) = outAt X W (bq k.val) (hi r) t := by
  obtain ⟨hp, hq⟩ := car_at c XA r5 r4 X hA0 hA1 hr5 hr4 k.val k.isLt
  have h0 := xb0_at c XA X hA0 k
  have h1 := xb1_at c XA X hA1 k
  have hl := l.isLt
  rw [tile1]
  have hcase : q = 0 ∨ q = 1 ∨ q = 2 ∨ q = 3 ∨ q = 4 := by omega
  rcases hcase with h | h | h | h | h <;> subst h
  · rw [pick0]
    exact (t01_at X W (bq k.val) (tq k.val) _ _ r5 r4 wr1 _ _ h0 h1 hr5 hr4 hw1 hp hq r l).trans (congrArg (outAt X W (bq k.val) (hi r)) (Fin.ext (by rw [ht]; simp only [tm, tq]; omega)))
  · rw [pick1]
    exact (t11_at X W (bq k.val) (tq k.val) _ _ r5 r4 wr1 _ _ h0 h1 hr5 hr4 hw1 hp hq r l).trans (congrArg (outAt X W (bq k.val) (hi r)) (Fin.ext (by rw [ht]; simp only [tm, tq]; omega)))
  · rw [pick2]
    exact (t21_at X W (bq k.val) (tq k.val) _ _ r5 r4 wr1 _ _ h0 h1 hr5 hr4 hw1 hp hq r l).trans (congrArg (outAt X W (bq k.val) (hi r)) (Fin.ext (by rw [ht]; simp only [tm, tq]; omega)))
  · rw [pick3]
    exact (t31_at X W (bq k.val) (tq k.val) _ _ r5 r4 wr1 _ _ h0 h1 hr5 hr4 hw1 hp hq r l).trans (congrArg (outAt X W (bq k.val) (hi r)) (Fin.ext (by rw [ht]; simp only [tm, tq]; omega)))
  · rw [pick4]
    exact (t41_at X W (bq k.val) (tq k.val) _ _ r5 r4 wr1 _ _ h0 h1 hr5 hr4 hw1 hp hq r l).trans (congrArg (outAt X W (bq k.val) (hi r)) (Fin.ext (by rw [ht]; simp only [tm, tq]; omega)))

include hA0 hA1 hr5 hr4 hw0 in
/-- The result array, first half of the channels. -/
theorem GO0_at (b : Fin 8) (r : Fin 128) (t : Fin 16000) : (GO c XA r5 r4 wr0 wr1 : FVec Ideal S8x2x128x16000 .f32) (ix4 b 0 r t) = outAt X W b (lo r) t := by
  have hb := b.isLt
  have htl := t.isLt
  have e := tile0_at c XA r5 r4 wr0 X W hA0 hA1 hr5 hr4 hw0 ⟨5 * b.val + t.val / 3200, by omega⟩ (t.val % 3200 / 640) (by omega) r ⟨t.val % 3200 % 640, Nat.mod_lt _ (by decide)⟩ t (by simp only []; omega)
  have eb : bq (5 * b.val + t.val / 3200) = b := Fin.ext (by show (5 * b.val + t.val / 3200) / 5 % 8 = b.val; omega)
  rw [eb] at e
  exact e

include hA0 hA1 hr5 hr4 hw1 in
/-- The result array, second half of the channels. -/
theorem GO1_at (b : Fin 8) (r : Fin 128) (t : Fin 16000) : (GO c XA r5 r4 wr0 wr1 : FVec Ideal S8x2x128x16000 .f32) (ix4 b 1 r t) = outAt X W b (hi r) t := by
  have hb := b.isLt
  have htl := t.isLt
  have e := tile1_at c XA r5 r4 wr1 X W hA0 hA1 hr5 hr4 hw1 ⟨5 * b.val + t.val / 3200, by omega⟩ (t.val % 3200 / 640) (by omega) r ⟨t.val % 3200 % 640, Nat.mod_lt _ (by decide)⟩ t (by simp only []; omega)
  have eb : bq (5 * b.val + t.val / 3200) = b := Fin.ext (by show (5 * b.val + t.val / 3200) / 5 % 8 = b.val; omega)
  rw [eb] at e
  exact e
end Value

end Cert.KernelIdeal.Hand
end
-- ==== Proof.IRef.lean ====
module

public import proofs.«01_k».proof.Proof.IMath
public import proofs.«01_k».proof.Proof.Gen.ReferenceIdeal

@[expose] public section

set_option maxRecDepth 16384

noncomputable section

namespace Cert.ReferenceIdeal.Hand

open Cert.ReferenceIdeal Cert.ReferenceIdeal.Gen
open Cert.KernelIdeal.Hand (coe_sum eps eps_pos ofBits_eps ofBits_256 div_real sqrt_real rsqrt_real xr cs cq sm sq mean var outAt var_eps_pos sitofp_small)
open Idealize.ShloMosaic
open scoped BigOperators

/-- A left fold that adds is the start plus the sum of the list. -/
theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The terms of a window that ends at `t` are those at the positions up to `t`. -/
theorem window_sum (c : ℕ → ℝ) (t : ℕ) (ht : t < 16000) :
    (∑ n ∈ Finset.range 16000, if 15999 ≤ t + n then ((c (t + n - 15999) : ℝ) : EReal) else 0) = ((∑ i ∈ Finset.range (t + 1), c i : ℝ) : EReal) := by
  have e : 16000 = (15999 - t) + (t + 1) := by omega
  rw [e, Finset.sum_range_add, coe_sum, Finset.sum_eq_zero, zero_add]
  · refine Finset.sum_congr rfl fun i _ => ?_
    have hi : t + (15999 - t + i) - 15999 = i := by omega
    rw [if_pos (by omega), hi]
  · intro n hn
    rw [Finset.mem_range] at hn
    rw [if_neg (by omega)]

/-- The running sum of a matrix of reals along its rows. -/
theorem cumsum_real (x : FVec Ideal S8x16000 .f32) (v : FVec Ideal S_ .f32) (hv : ∀ i, v i = (0 : EReal)) (c : Fin 8 → ℕ → ℝ)
    (hx : ∀ b (t : Fin 16000), x (ix2 b t) = ((c b t.val : ℝ) : EReal)) (b : Fin 8) (t : Fin 16000) :
    Host.reduceWindowAdd ![1, 16000] ![1, 1] ![0, 15999] ![0, 0] x v reduceWindows_S8x16000_S8x16000_w1s1p0_0_w16000s1p15999_0 h_S_ (ix2 b t)
      = ((∑ i ∈ Finset.range (t.val + 1), c b i : ℝ) : EReal) := by
  unfold Host.reduceWindowAdd
  rw [Ideal.hostReduceWindowAdd_def, hv]
  unfold Ideal.hostReduceWindowAdd Host.reduceWindow
  dsimp only
  rw [foldl_add, zero_add, ← Fin.sum_univ_def, ← window_sum (c b) t.val t.isLt]
  have hN : (⟨2, ![1, 16000]⟩ : Shape).numel = 16000 := by decide
  rw [Finset.sum_range, ← (finCongr hN).sum_comp]
  refine Finset.sum_congr rfl fun n _ => ?_
  have h0' : ((⟨2, ![1, 16000]⟩ : Shape).rowMajor.symm n 0).val < 1 := (((⟨2, ![1, 16000]⟩ : Shape).rowMajor.symm n 0)).isLt
  have h0 : ((⟨2, ![1, 16000]⟩ : Shape).rowMajor.symm n 0).val = 0 := by omega
  have h1 : ((⟨2, ![1, 16000]⟩ : Shape).rowMajor.symm n 1).val = n.val := by
    have h := rowMajor_val2 (d := ![1, 16000]) ((⟨2, ![1, 16000]⟩ : Shape).rowMajor.symm n) 16000 rfl
    rw [Equiv.apply_symm_apply, h0, zero_mul, zero_add] at h
    exact h.symm
  have hb : b.val < 8 := b.isLt
  have ht : t.val < 16000 := t.isLt
  have hn : n.val < 16000 := lt_of_lt_of_eq n.isLt hN
  by_cases hle : 15999 ≤ t.val + n.val
  · rw [if_pos (show 15999 ≤ t.val + ((finCongr hN) n).val from hle)]
    refine (dif_pos ?_).trans ((congrArg x ?_).trans (hx b ⟨t.val + n.val - 15999, by omega⟩))
    · intro a
      match a with
      | ⟨0, _⟩ =>
        show 0 ≤ b.val * 1 + ((⟨2, ![1, 16000]⟩ : Shape).rowMajor.symm n 0).val ∧ b.val * 1 + ((⟨2, ![1, 16000]⟩ : Shape).rowMajor.symm n 0).val - 0 < 8
        omega
      | ⟨1, _⟩ =>
        show 15999 ≤ t.val * 1 + ((⟨2, ![1, 16000]⟩ : Shape).rowMajor.symm n 1).val ∧ t.val * 1 + ((⟨2, ![1, 16000]⟩ : Shape).rowMajor.symm n 1).val - 15999 < 16000
        omega
    · funext a
      refine Fin.ext ?_
      match a with
      | ⟨0, _⟩ =>
        show b.val * 1 + ((⟨2, ![1, 16000]⟩ : Shape).rowMajor.symm n 0).val - 0 = b.val
        omega
      | ⟨1, _⟩ =>
        show t.val * 1 + ((⟨2, ![1, 16000]⟩ : Shape).rowMajor.symm n 1).val - 15999 = t.val + n.val - 15999
        omega
  · rw [if_neg (show ¬ 15999 ≤ t.val + ((finCongr hN) n).val from hle)]
    refine dif_neg fun h => hle ?_
    have h2 : 15999 ≤ t.val * 1 + ((⟨2, ![1, 16000]⟩ : Shape).rowMajor.symm n 1).val := (h 1).1
    omega

section Term
variable (X : FVec Ideal S8x256x16000 .f32) (W B : FVec Ideal S1x256x1 .f32)

/-- The running sums of the channel sums. -/
abbrev csumT (Y : FVec Ideal S8x256x16000 .f32) : FVec Ideal S8x16000 .f32 :=
  Host.reduceWindowAdd ![1, 16000] ![1, 1] ![0, 15999] ![0, 0] (Host.reduceAdd Y (constant S_ .f32 0x00000000#32) reducesTo_S8x256x16000_S8x16000_d1 h_S_)
    (broadcastInDim S_ ![] bcast_S_S_ (constant S_ .f32 0x00000000#32)) reduceWindows_S8x16000_S8x16000_w1s1p0_0_w16000s1p15999_0 h_S_
/-- The number of entries summed at each time. -/
abbrev cntT : FVec Ideal S8x16000 .f32 :=
  broadcastInDim S8x16000 ![0, 1] bcast_S1x16000_S8x16000_0_1 (broadcastInDim S1x16000 ![1] bcast_S16000_S1x16000_1
    (mulf (addf (broadcastInDim S16000 ![] bcast_S_S16000 (constant S_ .f32 0x3F800000#32)) (sitofp .f32 (iotaInDim S16000 32 0)))
      (broadcastInDim S16000 ![] bcast_S_S16000 (constant S_ .f32 0x43800000#32))))
/-- The mean at each time. -/
abbrev meanT : FVec Ideal S8x16000 .f32 := Host.divf (csumT X) cntT
/-- The square root of the variance and the small constant at each time. -/
abbrev stdT : FVec Ideal S8x16000 .f32 :=
  Host.sqrt (addf (subf (Host.divf (csumT (mulf X X)) cntT) (mulf (meanT X) (meanT X)))
    (broadcastInDim S8x16000 ![] bcast_S_S8x16000 (constant S_ .f32 0x358637BD#32)))
/-- A value per time, repeated over the channels. -/
abbrev overT (v : FVec Ideal S8x16000 .f32) : FVec Ideal S8x256x16000 .f32 :=
  broadcastInDim S8x256x16000 ![0, 1, 2] bcast_S8x1x16000_S8x256x16000_0_1_2 (broadcastInDim S8x1x16000 ![0, 2] bcast_S8x16000_S8x1x16000_0_2 v)
/-- The reference's result as a term of its arguments. -/
abbrev refT : FVec Ideal S8x256x16000 .f32 :=
  addf (mulf (broadcastInDim S8x256x16000 ![0, 1, 2] bcast_S1x256x1_S8x256x16000_0_1_2 W) (Host.divf (subf X (overT (meanT X))) (overT (stdT X))))
    (broadcastInDim S8x256x16000 ![0, 1, 2] bcast_S1x256x1_S8x256x16000_0_1_2 B)

variable (hX : ∀ b ch t, X (ix3 b ch t) = ((xr X b ch t : ℝ) : EReal))
include hX

/-- The reference's running sum, as a real. -/
theorem csumT_at (b : Fin 8) (t : Fin 16000) : csumT X (ix2 b t) = ((sm X b (t.val + 1) : ℝ) : EReal) := by
  refine cumsum_real _ _ (fun i => by pointwise) (fun b n => cs X b n) (fun b t => ?_) b t
  pointwise
  rw [cs, dif_pos t.isLt, coe_sum]
  exact Finset.sum_congr rfl fun ch _ => hX b ch t

/-- The reference's running sum of squares, as a real. -/
theorem csumT_sq_at (b : Fin 8) (t : Fin 16000) : csumT (mulf X X) (ix2 b t) = ((sq X b (t.val + 1) : ℝ) : EReal) := by
  refine cumsum_real _ _ (fun i => by pointwise) (fun b n => cq X b n) (fun b t => ?_) b t
  pointwise
  rw [cq, dif_pos t.isLt, coe_sum]
  refine Finset.sum_congr rfl fun ch _ => ?_
  rw [hX b ch t, EReal.coe_mul]

omit hX in
/-- The reference's count, as a real. -/
theorem cntT_at (b : Fin 8) (t : Fin 16000) : cntT (ix2 b t) = ((((t.val : ℝ) + 1) * 256 : ℝ) : EReal) := by
  pointwise
  have ht : t.val < 2147483648 := t.isLt.trans (by norm_num)
  rw [ofBits_256, sitofp_small t.val ht, ← EReal.coe_one, ← EReal.coe_add, ← EReal.coe_mul]
  congr 1
  push_cast
  ring

/-- The reference's mean, as a real. -/
theorem meanT_at (b : Fin 8) (t : Fin 16000) : meanT X (ix2 b t) = ((mean X b t.val : ℝ) : EReal) := by
  show Ideal.div (csumT X (ix2 b t)) (cntT (ix2 b t)) = _
  rw [csumT_at X hX, cntT_at, div_real _ _ (by positivity), mean]

/-- The reference's deviation, as a real. -/
theorem stdT_at (b : Fin 8) (t : Fin 16000) : stdT X (ix2 b t) = ((Real.sqrt (var X b t.val + eps) : ℝ) : EReal) := by
  show Ideal.sqrt (Ideal.div (csumT (mulf X X) (ix2 b t)) (cntT (ix2 b t)) - meanT X (ix2 b t) * meanT X (ix2 b t) + Ideal.ofBits .f32 0x358637BD#32) = _
  rw [csumT_sq_at X hX, cntT_at, meanT_at X hX, div_real _ _ (by positivity), ofBits_eps, ← EReal.coe_mul, ← EReal.coe_sub, ← EReal.coe_add]
  exact sqrt_real _ (var_eps_pos X b t.val t.isLt)

/-- The reference's result at an index, where the input is real and the bias is zero. -/
theorem refT_at (hB : ∀ i, B i = (0 : EReal)) (b : Fin 8) (ch : Fin 256) (t : Fin 16000) : refT X W B (ix3 b ch t) = outAt X W b ch t := by
  have e1 : overT (meanT X) (ix3 b ch t) = meanT X (ix2 b t) := by generalize meanT X = v; pointwise
  have e2 : overT (stdT X) (ix3 b ch t) = stdT X (ix2 b t) := by generalize stdT X = v; pointwise
  have e3 : ∀ v : FVec Ideal S1x256x1 .f32, broadcastInDim S8x256x16000 ![0, 1, 2] bcast_S1x256x1_S8x256x16000_0_1_2 v (ix3 b ch t) = v (ix3 0 ch 0) := by intro v; pointwise
  show broadcastInDim S8x256x16000 ![0, 1, 2] bcast_S1x256x1_S8x256x16000_0_1_2 W (ix3 b ch t) * Ideal.div (X (ix3 b ch t) - overT (meanT X) (ix3 b ch t)) (overT (stdT X) (ix3 b ch t))
    + broadcastInDim S8x256x16000 ![0, 1, 2] bcast_S1x256x1_S8x256x16000_0_1_2 B (ix3 b ch t) = _
  have hs : Real.sqrt (var X b t.val + eps) ≠ 0 := (Real.sqrt_pos.mpr (var_eps_pos X b t.val t.isLt)).ne'
  rw [e1, e2, e3, e3, hB, add_zero, meanT_at X hX, stdT_at X hX, hX, ← EReal.coe_sub, div_real _ _ hs, outAt, div_eq_mul_inv]

end Term

end Cert.ReferenceIdeal.Hand
end
-- ==== Proof.IEnd.lean ====
module

public import proofs.«01_k».proof.Proof.IValue
public import proofs.«01_k».proof.Proof.IRef

@[expose] public section

set_option maxRecDepth 16384

noncomputable section

namespace Cert.KernelIdeal.Hand

open Cert.KernelIdeal Cert.KernelIdeal.Gen
open Idealize.ShloMosaic Idealize.ShloMosaic.TcCoe Idealize.SL.Sem
open scoped BigOperators

/-! The result of the kernel's run is the reference's composed term. -/

variable (m : (ℓ : Loc nD τ sig) → Buf (Elt Ideal) ℓ)

/-- The result array after the host's closing reshape. -/
theorem end_v7 (c : Dev nD) : (endVal m c (Proc.devRef .tc main_v7) : FVec Ideal S8x256x16000 .f32)
    = shapeCast S8x256x16000 (GOm m c : FVec Ideal S8x2x128x16000 .f32) shapeCasts_S8x2x128x16000_S8x256x16000 := by
  have e : Pipeline.withArrays spec0 c (Pipeline.withR (V0 m c) R0 c (G m c)) (fun w => (dats m 0 c).arrAt w cfg0.N) (Proc.devRef .tc main_v6) = GOm m c := by
    rw [Pipeline.withArrays_of_ne _ c _ _ main_v6 (by decide), Pipeline.withR_of_mem _ _ _ _ _ (by decide), G_v6]
  unfold endVal
  generalize Pipeline.withArrays spec0 c (Pipeline.withR (V0 m c) R0 c (G m c)) (fun w => (dats m 0 c).arrAt w cfg0.N) = E at e ⊢
  rw [← e]
  simp only [hostOps1, List.flatten_cons, List.flatten_nil, List.append_nil]
  after_results_simp
  rfl

/-- A channel of the first half, as the input is laid out for the launch. -/
theorem half0 (r : Fin 128) (p : _) : (⟨(0 : Fin 2).val * 128 + r.val, p⟩ : Fin 256) = lo r := Fin.ext (by simp [lo])
/-- A channel of the second half. -/
theorem half1 (r : Fin 128) (p : _) : (⟨(1 : Fin 2).val * 128 + r.val, p⟩ : Fin 256) = hi r := Fin.ext (by simp [hi])

variable (c : Dev nD) (hX : ∀ b ch t, Xm m c (ix3 b ch t) = ((xr (Xm m c) b ch t : ℝ) : EReal))

include hX in
/-- The result's array at an index, first half of the channels. -/
theorem GOm0_at (b : Fin 8) (r : Fin 128) (t : Fin 16000) : (GOm m c : FVec Ideal S8x2x128x16000 .f32) (ix4 b 0 r t) = outAt (Xm m c) (Wm m c) b (lo r) t :=
  GO0_at c (XAm m c) (onesm m c) (trim m c) (wt0m m c) (wt1m m c) (Xm m c) (Wm m c)
    (fun b r t => (v0_at m c b 0 r t).trans (by rw [half0]; exact hX _ _ _)) (fun b r t => (v0_at m c b 1 r t).trans (by rw [half1]; exact hX _ _ _))
    (ones_at m c) (trim_at m c) (wt0_at m c) b r t
include hX in
/-- The result's array at an index, second half of the channels. -/
theorem GOm1_at (b : Fin 8) (r : Fin 128) (t : Fin 16000) : (GOm m c : FVec Ideal S8x2x128x16000 .f32) (ix4 b 1 r t) = outAt (Xm m c) (Wm m c) b (hi r) t :=
  GO1_at c (XAm m c) (onesm m c) (trim m c) (wt0m m c) (wt1m m c) (Xm m c) (Wm m c)
    (fun b r t => (v0_at m c b 0 r t).trans (by rw [half0]; exact hX _ _ _)) (fun b r t => (v0_at m c b 1 r t).trans (by rw [half1]; exact hX _ _ _))
    (ones_at m c) (trim_at m c) (wt1_at m c) b r t

include hX in
/-- The kernel's result at an index. -/
theorem v7_at (b : Fin 8) (ch : Fin 256) (t : Fin 16000) :
    (endVal m c (Proc.devRef .tc main_v7) : FVec Ideal S8x256x16000 .f32) (ix3 b ch t) = outAt (Xm m c) (Wm m c) b ch t := by
  have h0 := GOm0_at m c hX
  have h1 := GOm1_at m c hX
  rw [end_v7]
  generalize (GOm m c : FVec Ideal S8x2x128x16000 .f32) = Gv at h0 h1 ⊢
  have hb := b.isLt
  have ht := t.isLt
  have hc := ch.isLt
  by_cases h : ch.val < 128
  · have e : lo ⟨ch.val, h⟩ = ch := Fin.ext rfl
    rw [← e]
    refine Eq.trans (shapeCast_apply _ _ _ (ix4 b 0 ⟨ch.val, h⟩ t) ?_) (h0 _ _ _)
    rw [rowMajor_val4 (d := ![8, 2, 128, 16000]) _ 4096000 2048000 16000 rfl rfl rfl, rowMajor_val3 (d := ![8, 256, 16000]) _ 4096000 16000 rfl rfl]
    simp [lo]
    try omega
  · have e : hi ⟨ch.val - 128, by omega⟩ = ch := Fin.ext (by show 128 + (ch.val - 128) = ch.val; omega)
    rw [← e]
    refine Eq.trans (shapeCast_apply _ _ _ (ix4 b 1 ⟨ch.val - 128, by omega⟩ t) ?_) (h1 _ _ _)
    rw [rowMajor_val4 (d := ![8, 2, 128, 16000]) _ 4096000 2048000 16000 rfl rfl rfl, rowMajor_val3 (d := ![8, 256, 16000]) _ 4096000 16000 rfl rfl]
    simp [hi]
    try omega

/-- The run ends with the result holding that value and the arguments as they were. -/
theorem run_result (ρ : Dev nD → PrngReg) : θ_run defs (onTc (τ := τ) (main (F := Ideal))) ⟨m, fun _ => 0, ρ⟩ (fun r => ∀ c : Dev nD,
      r.2.mem ((c.tc : Thread nD τ).loc main_v7) = endVal m c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hw (b : Ref sig .tc) (hb : main_v7 ≠ b) : ∀ op ∈ ([hostOps1].flatten : List (HloOp τ sig (Elt Ideal))), Proc.devRef .tc b ∉ op.writes := by
    intro op hop
    simp only [List.flatten_cons, List.flatten_nil, List.append_nil, hostOps1, List.mem_cons, List.mem_nil_iff, or_false] at hop
    subst hop
    simp only [StableHlo.reshape_writes, StableHlo.unary_writes, Finset.mem_singleton]
    exact StableHlo.devRef_ne_of_ne hb.symm
  exact (θ_run defs _ _).mono (fun r h c =>
    ⟨h.1 c main_v7 (Pipeline.mem_restRefs_of main_v7 (by decide) (by decide)),
     (h.1 c main_arg0 (Pipeline.mem_restRefs_of main_arg0 (by decide) (by decide))).trans ((end_arg m c main_arg0 (hw _ (by decide)) (by decide) (by decide)).trans (V_main_arg0 m c)),
     (h.1 c main_arg1 (Pipeline.mem_restRefs_of main_arg1 (by decide) (by decide))).trans ((end_arg m c main_arg1 (hw _ (by decide)) (by decide) (by decide)).trans (V_main_arg1 m c)),
     (h.1 c main_arg2 (Pipeline.mem_restRefs_of main_arg2 (by decide) (by decide))).trans ((end_arg m c main_arg2 (hw _ (by decide)) (by decide) (by decide)).trans (V_main_arg2 m c))⟩) (run_main m ρ)

end Cert.KernelIdeal.Hand
end
-- ==== Proof.IPre.lean ====
module

public import proofs.«01_k».proof.Pre_finite_x_zero_bias
public import Idealize.ShloMosaic.Lib.ReduceAll
public import Idealize.ShloMosaic.Lib.KernelVsHost
public import Idealize.ShloMosaic.Lib.Affine
public import Idealize.ShloMosaic.Lib.Pointwise

@[expose] public section

set_option maxRecDepth 16384

noncomputable section

namespace Cert.Pre_finite_x_zero_bias.Hand

open Cert.Pre_finite_x_zero_bias
open Idealize.ShloMosaic

/-! The precondition, opened: every entry of the input is a real number and every entry of the bias is zero. -/

/-- A single value broadcasts to the shape of the input. -/
theorem bcastX : S_.BroadcastsInDim S8x256x16000 (![] : Fin 0 → Fin S8x256x16000.rank) := by decide
/-- The input reduces over all its axes to a single value. -/
theorem redX : S8x256x16000.ReducesTo [0, 1, 2] S_ := by decide
/-- A single value has one entry. -/
theorem posS : 0 < S_.numel := by decide
/-- A single value broadcasts to the shape of the bias. -/
theorem bcastB : S_.BroadcastsInDim S1x256x1 (![] : Fin 0 → Fin S1x256x1.rank) := by decide
/-- The bias reduces over all its axes to a single value. -/
theorem redB : S1x256x1.ReducesTo [0, 1, 2] S_ := by decide

/-- The shape relations the precondition states. -/
theorem facts : Facts := ⟨bcastX, redX, posS, bcastB, redB⟩

/-- A value whose magnitude is below infinity is a real number. -/
theorem real_of_olt (x : EReal) (h : FloatOps.cmpf .olt (FloatOps.hostAbsf (F := Ideal) (φ := .f32) x) (FloatOps.ofBits (F := Ideal) .f32 0x7F800000#32) = 1#1) : x = ((x.toReal : ℝ) : EReal) := by
  have hx : ¬ (x = ⊤ ∨ x = ⊥) := by
    intro hx
    rw [← Ideal.xori_weird_eq_hostAbsf_olt_inf] at h
    have e : FloatOps.weird (F := Ideal) (x : Ideal .f32) = 1#1 := by
      show BitVec.ofBool (decide (x = ⊤ ∨ x = ⊥)) = 1#1
      simp [hx]
    rw [e] at h
    exact absurd h (by decide)
  rw [not_or] at hx
  exact (EReal.coe_toReal hx.1 hx.2).symm

/-- A value that compares equal to zero is zero. -/
theorem zero_of_oeq (x : EReal) (h : FloatOps.cmpf (F := Ideal) (φ := .f32) .oeq x (FloatOps.ofBits (F := Ideal) .f32 0x00000000#32) = 1#1) : x = 0 := by
  have h' : Ideal.cmp .oeq x (Ideal.ofBits .f32 0x00000000#32) = 1#1 := h
  rw [Ideal.ofBits_zero_f32] at h'
  unfold Ideal.cmp at h'
  by_contra hx
  simp [hx] at h'

instance : Subsingleton S_.Idx := ⟨fun a b => funext fun i => i.elim0⟩

variable [Facts]
/-- Under the precondition every entry of the input is a real number. -/
theorem finite_x (x : FVec Ideal S8x256x16000 .f32) (w b : FVec Ideal S1x256x1 .f32) (h : fn (F := Ideal) x w b = fun _ => 1#1) (i : S8x256x16000.Idx) :
    x i = (((x i).toReal : ℝ) : EReal) := by
  have h0 := congrFun h (fun a => a.elim0)
  have h1 := (IntOp.andi_eq_one.1 h0).1
  exact real_of_olt _ (Host.reduce_andi_all _ _ _ _ _ h1 i)

/-- Under the precondition every entry of the bias is zero. -/
theorem zero_b (x : FVec Ideal S8x256x16000 .f32) (w b : FVec Ideal S1x256x1 .f32) (h : fn (F := Ideal) x w b = fun _ => 1#1) (i : S1x256x1.Idx) :
    b i = (0 : EReal) := by
  have h0 := congrFun h (fun a => a.elim0)
  have h1 := (IntOp.andi_eq_one.1 h0).2
  exact zero_of_oeq _ (Host.reduce_andi_all _ _ _ _ _ h1 i)

end Cert.Pre_finite_x_zero_bias.Hand
end
-- ==== Proof.lean ====
/- The proof of the claims: each frame from its run, and the equality of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.ILaunch
public import proofs.«01_k».proof.Proof.KLaunch
public import proofs.«01_k».proof.Proof.IEnd
public import proofs.«01_k».proof.Proof.IPre
public import Idealize.ShloMosaic.Lib.Quiescent
public import Idealize.ShloMosaic.Adequacy
public import Idealize.ShloMosaic.Init

@[expose] public section

noncomputable section

namespace Cert.Proof

open Idealize.ShloMosaic Idealize.SL.Sem

/-- The kernel, read at bits: it runs, leaves its arguments, and every counter ends at zero. -/
theorem frame_kernel : Cert.quiescent_Kernel (hKernel := Cert.Kernel.Gen.facts) := fun m g _ => Cert.Kernel.Hand.frame_run m g
/-- The kernel, read at the extended reals. -/
theorem frame_ideal : Cert.quiescent_KernelIdeal (hKernelIdeal := Cert.KernelIdeal.Gen.facts) := fun m g _ => Cert.KernelIdeal.Hand.frame_run m g
/-- The reference: host lines only, on a machine with no counters. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The reference's run ends with its composed term as the result. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v30)
        = Cert.ReferenceIdeal.Hand.refT (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  Cert.ReferenceIdeal.Value.run m g

/-- Where the input is finite and the bias zero, what the kernel leaves is the reference's term of the same arguments. -/
theorem results_equal (m : (ℓ : Loc Cert.KernelIdeal.nD Cert.KernelIdeal.τ Cert.KernelIdeal.sig) → Buf (Elt Ideal) ℓ) (c : Dev Cert.KernelIdeal.nD)
    (B : FVec Ideal Cert.KernelIdeal.S1x256x1 .f32)
    (h : @Cert.Pre_finite_x_zero_bias.fn Cert.Pre_finite_x_zero_bias.Hand.facts Ideal _ (Cert.KernelIdeal.Hand.Xm m c) (Cert.KernelIdeal.Hand.Wm m c) B = fun _ => 1#1) :
    Cert.ReferenceIdeal.Hand.refT (Cert.KernelIdeal.Hand.Xm m c) (Cert.KernelIdeal.Hand.Wm m c) B
      = (Cert.KernelIdeal.Hand.endVal m c (Proc.devRef .tc Cert.KernelIdeal.main_v7) : FVec Ideal Cert.KernelIdeal.S8x256x16000 .f32) := by
  have hX : ∀ b ch t, Cert.KernelIdeal.Hand.Xm m c (ix3 b ch t) = ((Cert.KernelIdeal.Hand.xr (Cert.KernelIdeal.Hand.Xm m c) b ch t : ℝ) : EReal) :=
    fun b ch t => @Cert.Pre_finite_x_zero_bias.Hand.finite_x Cert.Pre_finite_x_zero_bias.Hand.facts _ _ _ h (ix3 b ch t)
  have hB : ∀ i, B i = (0 : EReal) := @Cert.Pre_finite_x_zero_bias.Hand.zero_b Cert.Pre_finite_x_zero_bias.Hand.facts _ _ _ h
  funext j
  idx_vars j
  exact (Cert.ReferenceIdeal.Hand.refT_at _ _ _ hX hB _ _ _).trans (Cert.KernelIdeal.Hand.v7_at m c hX _ _ _).symm

/-- The kernel and the reference end with equal results. -/
theorem results : Cert.algebraic_KernelIdeal_ReferenceIdeal_pre_finite_x_zero_bias (hKernelIdeal := Cert.KernelIdeal.Gen.facts) (hReferenceIdeal := Cert.ReferenceIdeal.Gen.facts)
    (hPre_finite_x_zero_bias := Cert.Pre_finite_x_zero_bias.Hand.facts) := by
  intro m g m' g' hpre hargs
  refine ⟨fun c => Cert.KernelIdeal.Hand.endVal m c (Proc.devRef .tc Cert.KernelIdeal.main_v7), ?_, ?_⟩
  · exact (θ_run _ _ _).mono (fun r h c => h c) (Cert.KernelIdeal.Hand.run_result m g)
  · refine (θ_run _ _ _).mono (fun r h c => ⟨(h c).1.trans ?_, (h c).2⟩) (run_reference m' g')
    rw [(hargs c).1, (hargs c).2.1, (hargs c).2.2]
    exact results_equal m c _ (hpre c)

/-- All the claims together. -/
theorem claim : Cert.Claim := ⟨Cert.Kernel.Gen.facts, Cert.KernelIdeal.Gen.facts, Cert.ReferenceIdeal.Gen.facts, Cert.Pre_finite_x_zero_bias.Hand.facts,
  frame_kernel, frame_ideal, fun m g _ => Cert.KernelIdeal.Hand.frame_run m g, frame_reference,
  fun m g _ => (θ_run _ _ _).mono (fun r h => ⟨fun c => (h c).2, sem_eq_zero_of_no_sems (by decide) r.2⟩) (Cert.ReferenceIdeal.Value.run m g),
  trivial, results⟩

end Cert.Proof

end
